-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "q_scale" .f32 0x3E0293EE#32 ((((Real.sqrt 128) * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "log2_e" .f32 0x3FB8AA3B#32 (((Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S32768x3072 : Shape := ⟨2, ![32768, 3072]⟩
abbrev S8x32768 : Shape := ⟨2, ![8, 32768]⟩
abbrev S32768x2048 : Shape := ⟨2, ![32768, 2048]⟩
abbrev S_ : Shape := ⟨0, ![]⟩

class Facts : Prop where
  slices_S32768x3072_S32768x2048_0_0 : S32768x3072.Slices ![0, 0] S32768x2048
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S8x32768 : S_.BroadcastsInDim S8x32768 (![] : Fin 0 → Fin S8x32768.rank)
  reducesTo_S8x32768_S_d0_1 : S8x32768.ReducesTo [0, 1] S_

variable [Facts]

def fn {F : FTy → Type} [FloatOps F] (main_arg0 : FVec F S32768x3072 .bf16) (main_arg1 : FVec F S8x32768 .f32) : IVec S_ 1 :=
  let main_v0 : FVec F S32768x2048 .bf16 := (extractStridedSlice S32768x2048 ![0, 0] · slices_S32768x3072_S32768x2048_0_0) main_arg0
  let main_v1 : FVec F S32768x2048 .f32 := (extf .f32 · bitsLt_bf16_f32) main_v0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  let main_c : IVec S_ 1 := constantI S_ 1 1#1
  let main_v5 : IVec S_ 1 := (fun x v => Host.reduce IntOp.andi x v reducesTo_S32768x2048_S_d0_1 h_S_) main_v4 main_c
  let main_v6 : FVec F S8x32768 .f32 := Host.absf main_arg1
  let main_cst_0 : FVec F S_ .f32 := constant S_ .f32 0x7F800000#32
  let main_v7 : FVec F S8x32768 .f32 := broadcastInDim S8x32768 ![] bcast_S_S8x32768 main_cst_0
  let main_v8 : IVec S8x32768 1 := cmpf .olt main_v6 main_v7
  let main_c_1 : IVec S_ 1 := constantI S_ 1 1#1
  let main_v9 : IVec S_ 1 := (fun x v => Host.reduce IntOp.andi x v reducesTo_S8x32768_S_d0_1 h_S_) main_v8 main_c_1
  let main_v10 : IVec S_ 1 := andi main_v5 main_v9
  main_v10
-- ==== Kernel.lean ====
abbrev S32768x3072 : Shape := ⟨2, ![32768, 3072]⟩
abbrev S8x32768 : Shape := ⟨2, ![8, 32768]⟩
abbrev S32768x1024 : Shape := ⟨2, ![32768, 1024]⟩
abbrev S4096x256 : Shape := ⟨2, ![4096, 256]⟩
abbrev S8x4096 : Shape := ⟨2, ![8, 4096]⟩
abbrev S1024x512 : Shape := ⟨2, ![1024, 512]⟩
abbrev S1024x128 : Shape := ⟨2, ![1024, 128]⟩
abbrev S2x4096x256 : Shape := ⟨3, ![2, 4096, 256]⟩
abbrev S1024x256 : Shape := ⟨2, ![1024, 256]⟩
abbrev S4096x128 : Shape := ⟨2, ![4096, 128]⟩
abbrev S1x4096x128 : Shape := ⟨3, ![1, 4096, 128]⟩
abbrev S512x128 : Shape := ⟨2, ![512, 128]⟩
abbrev S1x512 : Shape := ⟨2, ![1, 512]⟩
abbrev S1024 : Shape := ⟨1, ![1024]⟩
abbrev S1024x1 : Shape := ⟨2, ![1024, 1]⟩
abbrev S512x512 : Shape := ⟨2, ![512, 512]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S256x512 : Shape := ⟨2, ![256, 512]⟩
abbrev S1x512x256 : Shape := ⟨3, ![1, 512, 256]⟩
abbrev S512x256 : Shape := ⟨2, ![512, 256]⟩

abbrev nBuf : Space → Nat
  | .hbm => 3
  | .vmem => 21
  | .smem => 0
  | _ => 0

abbrev bufTy : (tb : Table) → Fin (tcTables nBuf tb) → BufTy
  | .hbm, ⟨0, _⟩ => ⟨S32768x3072, .bf16⟩
  | .hbm, ⟨1, _⟩ => ⟨S8x32768, .f32⟩
  | .hbm, ⟨2, _⟩ => ⟨S32768x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S8x4096, .f32⟩
  | .local _ .vmem, ⟨7, _⟩ => ⟨S8x4096, .f32⟩
  | .local _ .vmem, ⟨8, _⟩ => ⟨S4096x256, .bf16⟩
  | .local _ .vmem, ⟨9, _⟩ => ⟨S4096x256, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S2x4096x256, .bf16⟩
  | .local _ .vmem, ⟨19, _⟩ => ⟨S1024x128, .f32⟩
  | .local _ .vmem, ⟨20, _⟩ => ⟨S1024x256, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 2 → Nat :=
  let arg1 : BitVec 32 := BitVec.ofNat 32 (i 1).val
  let c2_i32 : BitVec 32 := 2#32
  let v19 : BitVec 32 := Scalar.muli arg1 c2_i32
  let v20 : BitVec 32 := Scalar.addi v19 c0_i32
  let v21 : Index := Scalar.indexCast v20
  let c0_19 : Index := 0#32
  ![v21.toNat, 0]
def k0_off2 (i : grid0.Coords) (c0_i32_36 : BitVec 32) : Fin 2 → Nat :=
  let arg1 : BitVec 32 := BitVec.ofNat 32 (i 1).val
  let c2_i32_35 : BitVec 32 := 2#32
  let v46 : BitVec 32 := Scalar.muli arg1 c2_i32_35
  let v47 : BitVec 32 := Scalar.addi v46 c0_i32_36
  let v48 : Index := Scalar.indexCast v47
  let c512_37 : Index := 512#32
  ![v48.toNat, 512]
def k0_off3 (i : grid0.Coords) (c0_i32_413 : BitVec 32) : Fin 2 → Nat :=
  let arg1 : BitVec 32 := BitVec.ofNat 32 (i 1).val
  let c2_i32_412 : BitVec 32 := 2#32
  let v717 : BitVec 32 := Scalar.muli arg1 c2_i32_412
  let v718 : BitVec 32 := Scalar.addi v717 c0_i32_413
  let v719 : Index := Scalar.indexCast v718
  let c1024_414 : Index := 1024#32
  ![v719.toNat, 1024]
def k0_off4 (i : grid0.Coords) (c0_i32_451 : BitVec 32) : Fin 2 → Nat :=
  let arg1 : BitVec 32 := BitVec.ofNat 32 (i 1).val
  let c2_i32_450 : BitVec 32 := 2#32
  let v778 : BitVec 32 := Scalar.muli arg1 c2_i32_450
  let v779 : BitVec 32 := Scalar.addi v778 c0_i32_451
  let v780 : Index := Scalar.indexCast v779
  let c1536_452 : Index := 1536#32
  ![v780.toNat, 1536]
def k0_off5 (i : grid0.Coords) (c0_i32_989 : BitVec 32) : Fin 2 → Nat :=
  let arg1 : BitVec 32 := BitVec.ofNat 32 (i 1).val
  let c2_i32_988 : BitVec 32 := 2#32
  let v1693 : BitVec 32 := Scalar.muli arg1 c2_i32_988
  let v1694 : BitVec 32 := Scalar.addi v1693 c0_i32_989
  let v1695 : Index := Scalar.indexCast v1694
  let c2048_990 : Index := 2048#32
  ![v1695.toNat, 2048]
def k0_off6 (i : grid0.Coords) (c0_i32_1027 : BitVec 32) : Fin 2 → Nat :=
  let arg1 : BitVec 32 := BitVec.ofNat 32 (i 1).val
  let c2_i32_1026 : BitVec 32 := 2#32
  let v1754 : BitVec 32 := Scalar.muli arg1 c2_i32_1026
  let v1755 : BitVec 32 := Scalar.addi v1754 c0_i32_1027
  let v1756 : Index := Scalar.indexCast v1755
  let c2560_1028 : Index := 2560#32
  ![v1756.toNat, 2560]
def k0_off7 (i : grid0.Coords) (c0_i32_1721 : BitVec 32) : Fin 2 → Nat :=
  let arg1 : BitVec 32 := BitVec.ofNat 32 (i 1).val
  let c2_i32_1720 : BitVec 32 := 2#32
  let v2913 : BitVec 32 := Scalar.muli arg1 c2_i32_1720
  let v2914 : BitVec 32 := Scalar.addi v2913 c0_i32_1721
  let v2915 : Index := Scalar.indexCast v2914
  let c3072_1722 : Index := 3072#32
  ![v2915.toNat, 3072]
def k0_off8 (i : grid0.Coords) (c0_i32_1759 : BitVec 32) : Fin 2 → Nat :=
  let arg1 : BitVec 32 := BitVec.ofNat 32 (i 1).val
  let c2_i32_1758 : BitVec 32 := 2#32
  let v2974 : BitVec 32 := Scalar.muli arg1 c2_i32_1758
  let v2975 : BitVec 32 := Scalar.addi v2974 c0_i32_1759
  let v2976 : Index := Scalar.indexCast v2975
  let c3584_1760 : Index := 3584#32
  ![v2976.toNat, 3584]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x3072 : Shape := ⟨2, ![32768, 3072]⟩
abbrev S8x32768 : Shape := ⟨2, ![8, 32768]⟩
abbrev S8x4096x3072 : Shape := ⟨3, ![8, 4096, 3072]⟩
abbrev S8x4096x1024 : Shape := ⟨3, ![8, 4096, 1024]⟩
abbrev S8x4096x8x128 : Shape := ⟨4, ![8, 4096, 8, 128]⟩
abbrev S8x8x4096x128 : Shape := ⟨4, ![8, 8, 4096, 128]⟩
abbrev S8x8x4096 : Shape := ⟨3, ![8, 8, 4096]⟩
abbrev S8x8x4096x4096 : Shape := ⟨4, ![8, 8, 4096, 4096]⟩
abbrev S_ : Shape := ⟨0, ![]⟩
abbrev S8x8x4096x1 : Shape := ⟨4, ![8, 8, 4096, 1]⟩
abbrev S8x8x1x4096 : Shape := ⟨4, ![8, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S32768x1024 : Shape := ⟨2, ![32768, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S8x32768, .f32⟩
  | .hbm, ⟨2, _⟩ => ⟨S32768x3072, .f32⟩
  | .hbm, ⟨3, _⟩ => ⟨S8x4096x3072, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x8x128, .f32⟩
  | .hbm, ⟨8, _⟩ => ⟨S8x8x4096x128, .f32⟩
  | .hbm, ⟨9, _⟩ => ⟨S8x4096x8x128, .f32⟩
  | .hbm, ⟨10, _⟩ => ⟨S8x8x4096x128, .f32⟩
  | .hbm, ⟨11, _⟩ => ⟨S8x4096x8x128, .f32⟩
  | .hbm, ⟨12, _⟩ => ⟨S8x8x4096x128, .f32⟩
  | .hbm, ⟨13, _⟩ => ⟨S8x8x4096, .f32⟩
  | .hbm, ⟨14, _⟩ => ⟨S8x8x4096, .f32⟩
  | .hbm, ⟨15, _⟩ => ⟨S8x8x4096x4096, .f32⟩
  | .hbm, ⟨16, _⟩ => ⟨S_, .f32⟩
  | .hbm, ⟨17, _⟩ => ⟨S_, .f32⟩
  | .hbm, ⟨18, _⟩ => ⟨S8x8x4096x1, .f32⟩
  | .hbm, ⟨19, _⟩ => ⟨S8x8x1x4096, .f32⟩
  | .hbm, ⟨20, _⟩ => ⟨S8x8x4096x4096, .f32⟩
  | .hbm, ⟨21, _⟩ => ⟨S8x8x4096x4096, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x8x4096x4096, .i1⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S8x8x4096, .f32⟩
  | .hbm, ⟨39, _⟩ => ⟨S_, .f32⟩
  | .hbm, ⟨40, _⟩ => ⟨S8x8x4096, .f32⟩
  | .hbm, ⟨41, _⟩ => ⟨S8x8x4096, .f32⟩
  | .hbm, ⟨42, _⟩ => ⟨S8x8x4096x1, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S_, .f32⟩
  | .hbm, ⟨47, _⟩ => ⟨S8x8x4096, .f32⟩
  | .hbm, ⟨48, _⟩ => ⟨S8x8x4096x1, .f32⟩
  | .hbm, ⟨49, _⟩ => ⟨S8x8x4096x4096, .f32⟩
  | .hbm, ⟨50, _⟩ => ⟨S8x8x4096x4096, .f32⟩
  | .hbm, ⟨51, _⟩ => ⟨S8x8x4096x128, .f32⟩
  | .hbm, ⟨52, _⟩ => ⟨S8x4096x8x128, .f32⟩
  | .hbm, ⟨53, _⟩ => ⟨S32768x1024, .f32⟩
  | .hbm, ⟨54, _⟩ => ⟨S32768x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Kernel2.lean ====
abbrev S32768x1024 : Shape := ⟨2, ![32768, 1024]⟩
abbrev S32768x256 : Shape := ⟨2, ![32768, 256]⟩
abbrev S1024 : Shape := ⟨1, ![1024]⟩
abbrev S2048x1024 : Shape := ⟨2, ![2048, 1024]⟩
abbrev S256x1024 : Shape := ⟨2, ![256, 1024]⟩
abbrev S1024x1024 : Shape := ⟨2, ![1024, 1024]⟩
abbrev S1x1024 : Shape := ⟨2, ![1, 1024]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 20
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .f32⟩
  | .hbm, ⟨4, _⟩ => ⟨S32768x256, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S256x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1x1024, .f32⟩
  | .hbm, ⟨13, _⟩ => ⟨S2048x1024, .bf16⟩
  | .hbm, ⟨14, _⟩ => ⟨S1x1024, .f32⟩
  | .hbm, ⟨15, _⟩ => ⟨S256x1024, .bf16⟩
  | .hbm, ⟨16, _⟩ => ⟨S1x1024, .f32⟩
  | .hbm, ⟨17, _⟩ => ⟨S1024x1024, .bf16⟩
  | .hbm, ⟨18, _⟩ => ⟨S1x1024, .f32⟩
  | .hbm, ⟨19, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1024x256, .f32⟩
  | .local _ .vmem, ⟨10, _⟩ => ⟨S1x1024, .f32⟩
  | .local _ .vmem, ⟨11, _⟩ => ⟨S2048x1024, .bf16⟩
  | .local _ .vmem, ⟨12, _⟩ => ⟨S1x1024, .f32⟩
  | .local _ .vmem, ⟨13, _⟩ => ⟨S256x1024, .bf16⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S32768x1024 : Shape := ⟨2, ![32768, 1024]⟩
abbrev S32768x256 : Shape := ⟨2, ![32768, 256]⟩
abbrev S1024 : Shape := ⟨1, ![1024]⟩
abbrev S2048x1024 : Shape := ⟨2, ![2048, 1024]⟩
abbrev S256x1024 : Shape := ⟨2, ![256, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .f32⟩
  | .hbm, ⟨4, _⟩ => ⟨S32768x256, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S256x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x2048, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S1x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S1x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S_, .f32⟩
  | .hbm, ⟨84, _⟩ => ⟨S32768x1024, .f32⟩
  | .hbm, ⟨85, _⟩ => ⟨S32768x1024, .f32⟩
  | .hbm, ⟨86, _⟩ => ⟨S_, .f32⟩
  | .hbm, ⟨87, _⟩ => ⟨S32768x1024, .f32⟩
  | .hbm, ⟨88, _⟩ => ⟨S32768x1024, .f32⟩
  | .hbm, ⟨89, _⟩ => ⟨S32768x1024, .f32⟩
  | .hbm, ⟨90, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Kernel3.lean ====
abbrev S32768x1024 : Shape := ⟨2, ![32768, 1024]⟩
abbrev S1024x6152 : Shape := ⟨2, ![1024, 6152]⟩
abbrev S1024 : Shape := ⟨1, ![1024]⟩
abbrev S4x1024 : Shape := ⟨2, ![4, 1024]⟩
abbrev S8x128x128 : Shape := ⟨3, ![8, 128, 128]⟩
abbrev S1024x3072 : Shape := ⟨2, ![1024, 3072]⟩
abbrev S1024x8 : Shape := ⟨2, ![1024, 8]⟩
abbrev S_ : Shape := ⟨0, ![]⟩
abbrev S1024x128 : Shape := ⟨2, ![1024, 128]⟩
abbrev S8x128x256 : Shape := ⟨3, ![8, 128, 256]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x3072 : Shape := ⟨2, ![32768, 3072]⟩
abbrev S8x32768 : Shape := ⟨2, ![8, 32768]⟩
abbrev S1024x1024 : Shape := ⟨2, ![1024, 1024]⟩
abbrev S8x1024 : Shape := ⟨2, ![8, 1024]⟩
abbrev S1120x1024 : Shape := ⟨2, ![1120, 1024]⟩
abbrev S24x1024 : Shape := ⟨2, ![24, 1024]⟩
abbrev S1024x1 : Shape := ⟨2, ![1024, 1]⟩
abbrev S256x1024 : Shape := ⟨2, ![256, 1024]⟩
abbrev S1024x512 : Shape := ⟨2, ![1024, 512]⟩
abbrev S256x128 : Shape := ⟨2, ![256, 128]⟩
abbrev S1x128x256 : Shape := ⟨3, ![1, 128, 256]⟩
abbrev S128x256 : Shape := ⟨2, ![128, 256]⟩
abbrev S1x128 : Shape := ⟨2, ![1, 128]⟩
abbrev S8 : Shape := ⟨1, ![8]⟩
abbrev S8x1 : Shape := ⟨2, ![8, 1]⟩
abbrev S128x1024 : Shape := ⟨2, ![128, 1024]⟩

abbrev nBuf : Space → Nat
  | .hbm => 88
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S1024x6152, .f32⟩
  | .hbm, ⟨2, _⟩ => ⟨S1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x3072, .f32⟩
  | .hbm, ⟨12, _⟩ => ⟨S1024x3072, .bf16⟩
  | .hbm, ⟨13, _⟩ => ⟨S1024x3072, .f32⟩
  | .hbm, ⟨14, _⟩ => ⟨S1024x3072, .bf16⟩
  | .hbm, ⟨15, _⟩ => ⟨S1024x8, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S8x128x256, .f32⟩
  | .hbm, ⟨21, _⟩ => ⟨S_, .f32⟩
  | .hbm, ⟨22, _⟩ => ⟨S8x128x256, .f32⟩
  | .hbm, ⟨23, _⟩ => ⟨S8x128x256, .f32⟩
  | .hbm, ⟨24, _⟩ => ⟨S8x128x256, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S256, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S_, .i32⟩
  | .hbm, ⟨47, _⟩ => ⟨S_, .i1⟩
  | .hbm, ⟨48, _⟩ => ⟨S256, .i1⟩
  | .hbm, ⟨49, _⟩ => ⟨S256, .i1⟩
  | .hbm, ⟨50, _⟩ => ⟨S256, .i1⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S_, .i32⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S256, .i32⟩
  | .hbm, ⟨66, _⟩ => ⟨S256, .i32⟩
  | .hbm, ⟨67, _⟩ => ⟨S_, .i32⟩
  | .hbm, ⟨68, _⟩ => ⟨S256, .i32⟩
  | .hbm, ⟨69, _⟩ => ⟨S256, .i1⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256, .i32⟩
  | .hbm, ⟨76, _⟩ => ⟨S256x1, .i32⟩
  | .hbm, ⟨77, _⟩ => ⟨S256, .i32⟩
  | .hbm, ⟨78, _⟩ => ⟨S1x256, .i32⟩
  | .hbm, ⟨79, _⟩ => ⟨S256x256, .i32⟩
  | .hbm, ⟨80, _⟩ => ⟨S256x256, .i32⟩
  | .hbm, ⟨81, _⟩ => ⟨S256x256, .i1⟩
  | .hbm, ⟨82, _⟩ => ⟨S256x256, .bf16⟩
  | .hbm, ⟨83, _⟩ => ⟨S256x256, .bf16⟩
  | .hbm, ⟨84, _⟩ => ⟨S32768x3072, .bf16⟩
  | .hbm, ⟨85, _⟩ => ⟨S32768x1024, .bf16⟩
  | .hbm, ⟨86, _⟩ => ⟨S32768x1024, .bf16⟩
  | .hbm, ⟨87, _⟩ => ⟨S8x32768, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x128, .bf16⟩
  | .local _ .vmem, ⟨6, _⟩ => ⟨S256x256, .bf16⟩
  | .local _ .vmem, ⟨7, _⟩ => ⟨S256x256, .bf16⟩
  | .local _ .vmem, ⟨8, _⟩ => ⟨S4x1024, .f32⟩
  | .local _ .vmem, ⟨9, _⟩ => ⟨S1x1024, .f32⟩
  | .local _ .vmem, ⟨10, _⟩ => ⟨S8x128x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x3072, .bf16⟩
  | .local _ .vmem, ⟨16, _⟩ => ⟨S1024x3072, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S8x1024, .f32⟩
  | .local _ .vmem, ⟨22, _⟩ => ⟨S8x1024, .f32⟩
  | .local _ .vmem, ⟨23, _⟩ => ⟨S1024x1024, .f32⟩
  | .local _ .vmem, ⟨24, _⟩ => ⟨S1024x1024, .f32⟩
  | .local _ .vmem, ⟨25, _⟩ => ⟨S1120x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S24x1024, .f32⟩
  | .local _ .vmem, ⟨31, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v18 : Ref sig .tc := ⟨.hbm, 53, rfl⟩
abbrev main_c_1 : Ref sig .tc := ⟨.hbm, 54, rfl⟩
abbrev main_v19 : Ref sig .tc := ⟨.hbm, 55, rfl⟩
abbrev main_v20 : Ref sig .tc := ⟨.hbm, 56, rfl⟩
abbrev main_c_2 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31_0 : Ref sig .tc := ⟨.hbm, 84, rfl⟩
abbrev main_v31_1 : Ref sig .tc := ⟨.hbm, 85, rfl⟩
abbrev main_v31_2 : Ref sig .tc := ⟨.hbm, 86, rfl⟩
abbrev main_v31_3 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel3Ideal.lean ====
variable {F : FTy → Type} [FloatOps F] [Named F]
def κ : String → Option EReal := fun
  | "q_scale" => some ((((Real.sqrt 128) * (Real.log 2))⁻¹ : ℝ) : EReal)
  | _ => none
-- ==== Reference3Ideal.lean ====
abbrev S32768x1024 : Shape := ⟨2, ![32768, 1024]⟩
abbrev S1024x6152 : Shape := ⟨2, ![1024, 6152]⟩
abbrev S1024 : Shape := ⟨1, ![1024]⟩
abbrev S4x1024 : Shape := ⟨2, ![4, 1024]⟩
abbrev S8x128x128 : Shape := ⟨3, ![8, 128, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6152 : Shape := ⟨2, ![32768, 6152]⟩
abbrev S32768x8 : Shape := ⟨2, ![32768, 8]⟩
abbrev S32768x3072 : Shape := ⟨2, ![32768, 3072]⟩
abbrev S8x32768 : Shape := ⟨2, ![8, 32768]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6152, .f32⟩
  | .hbm, ⟨2, _⟩ => ⟨S1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x6152, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x8, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x3072, .f32⟩
  | .hbm, ⟨43, _⟩ => ⟨S32768x3072, .bf16⟩
  | .hbm, ⟨44, _⟩ => ⟨S32768x1024, .bf16⟩
  | .hbm, ⟨45, _⟩ => ⟨S8x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel4.lean ====
abbrev S8x32768 : Shape := ⟨2, ![8, 32768]⟩
abbrev S8 : Shape := ⟨1, ![8]⟩
abbrev S8x1 : Shape := ⟨2, ![8, 1]⟩
abbrev S8x4096 : Shape := ⟨2, ![8, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8x32768, .f32⟩
  | .hbm, ⟨1, _⟩ => ⟨S8, .f32⟩
  | .hbm, ⟨2, _⟩ => ⟨S8x1, .f32⟩
  | .hbm, ⟨3, _⟩ => ⟨S8x32768, .f32⟩
  | .local _ .vmem, ⟨0, _⟩ => ⟨S8x4096, .f32⟩
  | .local _ .vmem, ⟨1, _⟩ => ⟨S8x4096, .f32⟩
  | .local _ .vmem, ⟨2, _⟩ => ⟨S8x1, .f32⟩
  | .local _ .vmem, ⟨3, _⟩ => ⟨S8x4096, .f32⟩
  | .local _ .vmem, ⟨4, _⟩ => ⟨S8x4096, .f32⟩
  | _, _ => ⟨S8x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel4Ideal.lean ====
variable {F : FTy → Type} [FloatOps F] [Named F]
def κ : String → Option EReal := fun
  | "log2_e" => some (((Real.log 2)⁻¹ : ℝ) : EReal)
  | _ => none
-- ==== Reference4Ideal.lean ====
abbrev S8x32768 : Shape := ⟨2, ![8, 32768]⟩
abbrev S8 : Shape := ⟨1, ![8]⟩
abbrev S8x8x4096 : Shape := ⟨3, ![8, 8, 4096]⟩
abbrev S8x1x1 : Shape := ⟨3, ![8, 1, 1]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8x32768, .f32⟩
  | .hbm, ⟨1, _⟩ => ⟨S8, .f32⟩
  | .hbm, ⟨2, _⟩ => ⟨S8x8x4096, .f32⟩
  | .hbm, ⟨3, _⟩ => ⟨S8x1x1, .f32⟩
  | .hbm, ⟨4, _⟩ => ⟨S8x8x4096, .f32⟩
  | .hbm, ⟨5, _⟩ => ⟨S8x8x4096, .f32⟩
  | .hbm, ⟨6, _⟩ => ⟨S8x8x4096, .f32⟩
  | .hbm, ⟨7, _⟩ => ⟨S_, .f32⟩
  | .hbm, ⟨8, _⟩ => ⟨S8x8x4096, .f32⟩
  | .hbm, ⟨9, _⟩ => ⟨S8x8x4096, .f32⟩
  | .hbm, ⟨10, _⟩ => ⟨S8x8x4096, .f32⟩
  | .hbm, ⟨11, _⟩ => ⟨S8x8x4096, .f32⟩
  | .hbm, ⟨12, _⟩ => ⟨S8x8x4096, .i1⟩
  | .hbm, ⟨13, _⟩ => ⟨S8x8x4096, .f32⟩
  | .hbm, ⟨14, _⟩ => ⟨S8x8x4096, .f32⟩
  | .hbm, ⟨15, _⟩ => ⟨S8x8x4096, .f32⟩
  | .hbm, ⟨16, _⟩ => ⟨S8x8x4096, .f32⟩
  | .hbm, ⟨17, _⟩ => ⟨S8x8x4096, .f32⟩
  | .hbm, ⟨18, _⟩ => ⟨S8x8x4096, .f32⟩
  | .hbm, ⟨19, _⟩ => ⟨S8x8x4096, .f32⟩
  | .hbm, ⟨20, _⟩ => ⟨S8x8x4096, .f32⟩
  | .hbm, ⟨21, _⟩ => ⟨S8x8x4096, .f32⟩
  | .hbm, ⟨22, _⟩ => ⟨S_, .f32⟩
  | .hbm, ⟨23, _⟩ => ⟨S_, .f32⟩
  | .hbm, ⟨24, _⟩ => ⟨S8x8x4096, .f32⟩
  | .hbm, ⟨25, _⟩ => ⟨S8x32768, .f32⟩
  | .hbm, ⟨26, _⟩ => ⟨S_, .f32⟩
  | .hbm, ⟨27, _⟩ => ⟨S_, .f32⟩
  | .hbm, ⟨28, _⟩ => ⟨S8x32768, .f32⟩
  | .hbm, ⟨29, _⟩ => ⟨S8x32768, .f32⟩
  | _, _ => ⟨S8x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Proof.Code.lean ====
/- A straight-line program over the attention kernel's buffers, as data: loads and stores through rectangles. What such a
   program does to the buffers is a plain function of their contents (`Code.eval`), and one theorem (`Code.sound`) carries that
   function to the program the machine runs. -/
module

public import proofs.«01_k».proof.Proof.Gen.KernelIdeal.Frame.Runs
public import Idealize.ShloMosaic.Lib.Writes

@[expose] public section

noncomputable section

namespace Cert.Fox

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's buffers: the queries, keys, values and log-forget sums, the output, four score buffers and the four buffers of
    their row maxima, the values with ones beside them, the running maximum and the accumulator. -/
inductive Bf
  | q | k | v | c | o | s (j : Fin 4) | r (j : Fin 4) | x | m | a
  deriving DecidableEq

/-- A buffer's shape, -/
abbrev Bf.sh : Bf → Shape
  | .q | .k | .v | .o => S4096x256
  | .c => S8x4096
  | .s _ => S1024x512
  | .r _ => S1024x128
  | .x => S2x4096x256
  | .m => S1024x128
  | .a => S1024x256

/-- and its element type. -/
abbrev Bf.el : Bf → EltTy
  | .q | .k | .v | .o | .x => .bf16
  | .c | .s _ | .r _ | .m | .a => .f32

/-- Every buffer once. -/
def Bf.all : List Bf :=
  [.q, .k, .v, .c, .o, .s 0, .s 1, .s 2, .s 3, .r 0, .r 1, .r 2, .r 3, .x, .m, .a]

theorem Bf.mem_all (b : Bf) : b ∈ Bf.all := by
  cases b <;> first | decide | (rename_i j; revert j; decide)

theorem Bf.nodup_all : Bf.all.Nodup := by decide

/-- The memrefs the kernel is called with. -/
abbrev Mems : Type := (b : Bf) → Memref sig .tc .vmem b.sh b.el

/-- The buffers' contents. -/
abbrev St (F : FTy → Type) : Type := (b : Bf) → b.sh.Idx → Elt F b.el

/-- A straight line of loads and stores. -/
inductive Code (F : FTy → Type) (M : Mems) : Type
  | done
  | ld (b : Bf) (r : Rect b.sh) (h : 0 < r.shape.numel) (k : (r.shape.Idx → Elt F b.el) → Code F M)
  | st (b : Bf) (r : Rect b.sh) (w : r.shape.Idx → Elt F b.el) (h : ((M b).access r).Stores Finset.univ) (k : Code F M)

variable {M : Mems}

/-- The program of a line. -/
def Code.prog : Code F M → Prog (TpuEff nD τ sig (Elt F) Λ₀ .tc) PUnit
  | .done => .ret ⟨⟩
  | .ld b r h k => .op (.load (M b) r.toLoadRect (View.loadsAt_vmem h)) fun x => (k x).prog
  | .st b r w h k => .op (.store (M b) r w Finset.univ h (.inl rfl)) fun _ => k.prog

/-- What a line does to the contents. -/
def Code.eval : Code F M → St F → St F
  | .done, σ => σ
  | .ld b r _ k, σ => (k fun i => σ b (r.emb i)).eval σ
  | .st b r w _ k, σ => k.eval (Function.update σ b (r.overlay (σ b) w))

variable (c : Dev nD)

/-- Core `c` owns the listed buffers at the contents `σ`. -/
def ownL (M : Mems) (σ : St F) : List Bf → sProp 𝕄
  | [] => iprop(emp)
  | b :: l => iprop(owns (c : Thread nD τ) (M b) fullShare (σ b) ∗ ownL M σ l)

theorem ownL_congr (σ σ' : St F) : ∀ l : List Bf, (∀ b ∈ l, σ b = σ' b) → ownL c M σ l = ownL c M σ' l
  | [], _ => rfl
  | b :: l, h => by
    unfold ownL
    rw [h b List.mem_cons_self, ownL_congr σ σ' l fun b' hb => h b' (List.mem_cons_of_mem _ hb)]

/-- One of the buffers apart from the rest, which take it back at whatever contents. -/
theorem ownL_focus (σ : St F) (b : Bf) : ∀ l : List Bf, b ∈ l → l.Nodup →
    ownL c M σ l ⊢ iprop(owns (c : Thread nD τ) (M b) fullShare (σ b)
      ∗ ∀ w, owns (c : Thread nD τ) (M b) fullShare w -∗ ownL c M (Function.update σ b w) l)
  | [], h, _ => absurd h List.not_mem_nil
  | b' :: l, h, hn => by
    obtain ⟨hb', hl⟩ := List.nodup_cons.mp hn
    by_cases e : b = b'
    · subst e
      unfold ownL
      iintro ⟨H, HL⟩
      isplitl [H]; · iexact H
      iintro %w H
      rw [Function.update_self, ownL_congr c (Function.update σ b w) σ l fun b' hb => Function.update_of_ne (by rintro rfl; exact hb' hb) _ _]
      isplitl [H]; · iexact H
      iexact HL
    · have hm : b ∈ l := (List.mem_cons.mp h).resolve_left e
      have ih := ownL_focus σ b l hm hl
      unfold ownL
      iintro ⟨H, HL⟩
      ihave HL' := ih $$ HL
      icases HL' with ⟨Hb, Hk⟩
      isplitl [Hb]; · iexact Hb
      iintro %w Hw
      rw [Function.update_of_ne (Ne.symm e)]
      isplitl [H]; · iexact H
      iapply Hk
      iexact Hw

/-- What a memref reads after a store through a rectangle. -/
theorem read_store {s : Shape} {e : EltTy} (m : Memref sig .tc .vmem s e) (r : Rect s) (f : m.view.ty.Contents (Elt F))
    (w : r.shape.Idx → Elt F e) :
    m.view.read (Elt F) ((m.access r).write (Elt F) f w Finset.univ) = r.overlay (m.view.read (Elt F) f) w := by
  funext y
  have h1 : (m.access r).write (Elt F) f w Finset.univ = m.view.writes (Elt F) f [⟨r, w⟩] := rfl
  rw [h1]
  by_cases hy : y ∈ r.set
  · obtain ⟨x, rfl⟩ : ∃ x, r.emb x = y := r.exists_idx_of_mem hy
    rw [View.read_writes_cons_emb, Rect.overlay_emb]
  · rw [View.read_writes_cons_miss _ _ _ _ _ hy, Rect.overlay_of_not_mem _ _ _ hy]; rfl

/-- The machine's run of a line: it starts at any contents and ends at what `eval` says of them. -/
theorem Code.sound (E : Set ℕ) (Q : PUnit → sProp 𝕄) : ∀ (cd : Code F M) (σ : St F),
    iprop(ownL c M σ Bf.all ∗ (ownL c M (cd.eval σ) Bf.all -∗ Q ⟨⟩))
      ⊢ wp frame (wpE (defs₀ (F := F)) Variants.none c none) E cd.prog Q
  | .done, σ => by
    unfold Code.prog Code.eval
    refine BIBase.Entails.trans ?_ (le_wp_ret _ _ _ _ Q)
    iintro ⟨H, Hk⟩
    iapply Hk
    iexact H
  | .ld b r h k, σ => by
    have ih := Code.sound E Q (k fun i => σ b (r.emb i)) σ
    unfold Code.prog Code.eval
    have hf := ownL_focus (F := F) (M := M) c σ b Bf.all b.mem_all Bf.nodup_all
    iintro ⟨H, Hk⟩
    ihave H' := hf $$ H
    icases H' with ⟨Hb, HL⟩
    unfold owns
    icases Hb with ⟨%f, %hg, Hb⟩
    ihave Hw := (wp_load (defs := defs₀ (F := F)) Variants.none (c : Thread nD τ) none E (Q := Q) (m := M b) (r := r.toLoadRect)
      (hl := View.loadsAt_vmem h) (k := fun x => (k x).prog) (q := fullShare) (f := f) (S := (M b).view.set)
      ((M b).view.setOn_subset_set r.toLoadRect.set)) $$ Hb
    iapply Hw
    iintro Hb
    have e : (M b).view.readAt (Elt F) r.toLoadRect f = fun i => σ b (r.emb i) := by
      rw [View.readAt_eq_ld, hg]; rfl
    rw [e]
    iapply ih
    isplitl [Hb HL]
    · ihave HL' := HL $$ %(σ b)
      rw [Function.update_eq_self]
      iapply HL'
      iexists f
      isplitr
      · ipureintro; exact hg
      iexact Hb
    · iexact Hk
  | .st b r w h k, σ => by
    have ih := Code.sound E Q k (Function.update σ b (r.overlay (σ b) w))
    unfold Code.prog Code.eval
    have hf := ownL_focus (F := F) (M := M) c σ b Bf.all b.mem_all Bf.nodup_all
    iintro ⟨H, Hk⟩
    ihave H' := hf $$ H
    icases H' with ⟨Hb, HL⟩
    unfold owns
    icases Hb with ⟨%f, %hg, Hb⟩
    ihave Hw := (wp_store (defs := defs₀ (F := F)) Variants.none (c : Thread nD τ) none E (Q := Q) (m := M b) (r := r)
      (w := w) (Mk := Finset.univ) (hx := h) (hm := .inl rfl) (k := fun _ => k.prog) (f := f) (S := (M b).view.set)
      (Memref.setOn_access_subset (M b) r Finset.univ)) $$ Hb
    iapply Hw
    iintro Hb
    iapply ih
    isplitl [Hb HL]
    · ihave HL' := HL $$ %(r.overlay (σ b) w)
      iapply HL'
      iexists ((M b).access r).write (Elt F) f w Finset.univ
      isplitr
      · ipureintro; rw [read_store, hg]
      iexact Hb
    · iexact Hk

end Cert.Fox

end
-- ==== Proof.Fox.lean ====
/- The attention kernel's body, phase by phase: each phase is written once, over the rows, the keys and the buffers it works
   on, and the body is their sequence. `body_eq` says that the printed body is that sequence. -/
module

public import proofs.«01_k».proof.Proof.Code

@[expose] public section

set_option maxRecDepth 16384

noncomputable section

namespace Cert.Fox

open Cert.KernelIdeal
open Idealize.ShloMosaic Idealize.ShloMosaic.TcCoe

variable {F : FTy → Type} [FloatOps F] [Named F]

/-- A shape of two axes, -/
abbrev Sh (a b : ℕ) : Shape := ⟨2, ![a, b]⟩

/-- and what a shape of two axes needs to lie inside another. -/
theorem inb2 {s : Fin 2 → ℕ} {o p a b : ℕ} (h0 : o + a ≤ s 0) (h1 : p + b ≤ s 1) :
    ∀ x : Fin 2, (![o, p] : Fin 2 → ℕ) x + (Sh a b).size x ≤ s x :=
  Fin.forall_fin_two.mpr ⟨h0, h1⟩

theorem inb3 {s : Fin 3 → ℕ} {o p r a b c : ℕ} (h0 : o + a ≤ s 0) (h1 : p + b ≤ s 1) (h2 : r + c ≤ s 2) :
    ∀ x : Fin 3, (![o, p, r] : Fin 3 → ℕ) x + (⟨3, ![a, b, c]⟩ : Shape).size x ≤ s x := by
  intro x; fin_cases x
  · exact h0
  · exact h1
  · exact h2

/-- What the operations on `n` rows ask of their shapes. -/
class Rows (n : ℕ) : Prop where
  pos128 : 0 < (Sh n 128).numel
  pos512 : 0 < (Sh n 512).numel
  bc : S1x512.Broadcasts (Sh n 512)
  sc512 : (Sh n 512).ShapeCasts (Sh n 512)
  red : (Sh n 512).Reduces [1] ⟨1, ![n]⟩
  red1 : (Sh n 128).Reduces [1] ⟨1, ![n]⟩
  scol : (⟨1, ![n]⟩ : Shape).ShapeCasts (Sh n 1)
  scol1 : (Sh n 1).ShapeCasts (Sh n 1)
  bcol : (Sh n 1).Broadcasts (Sh n 128)
  sc128 : (Sh n 128).ShapeCasts (Sh n 128)
  dotT : DotDims.WF (Sh n 128) (Sh 512 128) (Sh n 512) [1] [1] [0] [0] [] []
  sl0 : (Sh n 256).Slices ![0, 0] (Sh n 128)
  sl1 : (Sh n 256).Slices ![0, 128] (Sh n 128)

instance : Rows 1024 := ⟨by decide, by decide, by decide, by decide, by decide, by decide, by decide, by decide, by decide,
  by decide, by decide, by decide, by decide⟩
instance : Rows 512 := ⟨by decide, by decide, by decide, by decide, by decide, by decide, by decide, by decide, by decide,
  by decide, by decide, by decide, by decide⟩
instance : Rows 256 := ⟨by decide, by decide, by decide, by decide, by decide, by decide, by decide, by decide, by decide,
  by decide, by decide, by decide, by decide⟩

/-- What the operations on `n` rows and `C` chunks of 128 keys ask of their shapes. -/
class Keys (n K : ℕ) (C : List Shape) : Prop where
  cat : Shape.Concatenates C (Sh n K) 1
  pos : 0 < (⟨3, ![1, K, 256]⟩ : Shape).numel
  sc : (⟨3, ![1, K, 256]⟩ : Shape).ShapeCasts (Sh K 256)
  dot : DotDims.WF (Sh n K) (Sh K 256) (Sh n 256) [1] [0] [0] [1] [] []

instance : Keys 1024 512 [Sh 1024 128, Sh 1024 128, Sh 1024 128, Sh 1024 128] := ⟨by decide, by decide, by decide, by decide⟩
instance : Keys 512 512 [Sh 512 128, Sh 512 128, Sh 512 128, Sh 512 128] := ⟨by decide, by decide, by decide, by decide⟩
instance : Keys 256 512 [Sh 256 128, Sh 256 128, Sh 256 128, Sh 256 128] := ⟨by decide, by decide, by decide, by decide⟩
instance : Keys 256 256 [Sh 256 128, Sh 256 128] := ⟨by decide, by decide, by decide, by decide⟩

/-- The row of the log-forget sums that head `hh` of the point's group reads. -/
def cRow (i : grid0.Coords) (hh : Fin 2) : ℕ :=
  (Scalar.indexCast (Scalar.addi (Scalar.muli (BitVec.ofNat 32 (i 1).val) 2#32) (BitVec.ofNat 32 hh.val))).toNat

theorem cRow_eq (i : grid0.Coords) (hh : Fin 2) : cRow i hh = 2 * (i 1).val + hh.val := by
  unfold cRow
  generalize hg : (i 1) = g
  change Fin 4 at g
  clear hg
  revert g hh
  decide

theorem cRow_lt (i : grid0.Coords) (hh : Fin 2) : cRow i hh + 1 ≤ 8 := by
  rw [cRow_eq]
  have h1 : (i 1).val < 4 := (i 1).isLt
  omega

/-! ## The values -/

section Values

variable {n : ℕ} [Rows n]

/-- The scores of `n` rows against 512 keys: the products, less the keys' log-forget sums. -/
def scoreV (q : Vec F (Sh n 128) .bf16) (k : Vec F (Sh 512 128) .bf16) (c : Vec F S1x512 .f32) : FVec F (Sh n 512) .f32 :=
  subf (matmul (⟨[1], [1], [0], [0], [], [], Rows.dotT⟩ : DotDims (Sh n 128) (Sh 512 128) (Sh n 512)) none q k
    (constant (Sh n 512) .f32 0x00000000#32)) (broadcastTo (Sh n 512) c Rows.bc)

/-- Each row's largest score, on every lane. -/
def rowMaxV (s : FVec F (Sh n 512) .f32) : FVec F (Sh n 128) .f32 :=
  broadcastTo (Sh n 128) (shapeCast (Sh n 1) (shapeCast (Sh n 1)
    (multiReduction .maximumf [1] ⟨1, ![n]⟩ s 0xFF800000#32 Rows.red (.inl rfl) rfl) Rows.scol) Rows.scol1) Rows.bcol

/-- A chunk's weights against the running maximum. -/
def wtV (s m : FVec F (Sh n 128) .f32) : FVec F (Sh n 128) .bf16 :=
  truncf .bf16 (exp2 (subf s m)) Facts₀.bitsLt_bf16_f32

/-- The weights times the values, the ones beside them. -/
def pvV {K : ℕ} {C : List Shape} [Keys n K C] (p : FVec F (Sh n K) .bf16) (x : Vec F ⟨3, ![1, K, 256]⟩ .bf16) : FVec F (Sh n 256) .f32 :=
  matmul (⟨[1], [0], [0], [1], [], [], Keys.dot C⟩ : DotDims (Sh n K) (Sh K 256) (Sh n 256)) none p
    (shapeCast (Sh K 256) x (Keys.sc n C)) (constant (Sh n 256) .f32 0x00000000#32)

/-- The accumulator scaled to the new maximum, and the products added: the values' half, -/
def acc0V (al a : FVec F (Sh n 128) .f32) (pv : FVec F (Sh n 256) .f32) : FVec F (Sh n 128) .f32 :=
  shapeCast (Sh n 128) (addf (mulf al a) (extractStridedSlice (Sh n 128) ![0, 0] pv Rows.sl0)) Rows.sc128

/-- and the weights' half. -/
def acc1V (al a : FVec F (Sh n 128) .f32) (pv : FVec F (Sh n 256) .f32) : FVec F (Sh n 128) .f32 :=
  shapeCast (Sh n 128) (addf (mulf al a) (extractStridedSlice (Sh n 128) ![0, 128] pv Rows.sl1)) Rows.sc128

end Values

/-- A chunk of 128 keys that begin `off` after the rows do, the keys that come after their row masked. -/
def maskV (off : BitVec 32) (s : Vec F (Sh 256 128) .f32) : Vec F (Sh 256 128) .f32 :=
  select (cmpi .sge (iota .tc (Sh 256 128) 32 [0] Facts₀.iota_S256x128_d0_w32)
    (addi (iota .tc (Sh 256 128) 32 [1] Facts₀.iota_S256x128_d1_w32) (broadcast (Sh 256 128) off))) s
    (broadcast (Sh 256 128) (Named.named κ "mask" 0xF149F2CA#32 : F .f32))

/-- The larger of the running maximum and a row's largest entry. -/
def joinV (m s : FVec F (Sh 256 128) .f32) : FVec F (Sh 256 128) .f32 :=
  maximumf m (broadcastTo (Sh 256 128) (shapeCast (Sh 256 1)
    (multiReduction .maximumf [1] ⟨1, ![256]⟩ s 0xFF800000#32 Rows.red1 (.inl rfl) rfl) Rows.scol) Rows.bcol)

/-! ## The phases -/

section Phases

variable {M : Mems} (i : grid0.Coords)

/-- The scores of the rows `lo …` of super tile `it` against key tile `j`, and their row maxima, into buffers `b`. -/
def scores (n lo : ℕ) [Rows n] (hn : lo + n ≤ 1024) (hh : Fin 2) (it : Fin 4) (j : ℕ) (hj : j < 8) (b : Fin 4) (k : Code F M) : Code F M :=
  .ld .q (Rect.unit (s := S4096x256) ![1024 * it.val + lo, 128 * hh.val] (Sh n 128).size
      (inb2 (show 1024 * it.val + lo + n ≤ 4096 by omega) (show 128 * hh.val + 128 ≤ 256 by omega))) (Rows.pos128 (n := n)) fun q =>
  .ld .k (Rect.unit (s := S4096x256) ![512 * j, 128 * hh.val] (Sh 512 128).size
      (inb2 (show 512 * j + 512 ≤ 4096 by omega) (show 128 * hh.val + 128 ≤ 256 by omega))) Facts₀.h_S512x128 fun kk =>
  .ld .c (Rect.unit (s := S8x4096) ![cRow i hh, 512 * j] (Sh 1 512).size
      (inb2 (cRow_lt i hh) (show 512 * j + 512 ≤ 4096 by omega))) Facts₀.h_S1x512 fun c =>
  .ld (.s b) (Rect.unit (s := S1024x512) ![lo, 0] (Sh n 512).size (inb2 hn (Nat.le_refl 512))) (Rows.pos512 (n := n)) fun _ =>
  .st (.s b) (Rect.unit (s := S1024x512) ![lo, 0] (Sh n 512).size (inb2 hn (Nat.le_refl 512)))
    (shapeCast (Sh n 512) (scoreV q kk c) Rows.sc512) (View.stores_vmem_bits_univ (Rows.pos512 (n := n)) rfl) <|
  .ld (.r b) (Rect.unit (s := S1024x128) ![lo, 0] (Sh n 128).size (inb2 hn (Nat.le_refl 128))) (Rows.pos128 (n := n)) fun _ =>
  .st (.r b) (Rect.unit (s := S1024x128) ![lo, 0] (Sh n 128).size (inb2 hn (Nat.le_refl 128)))
    (shapeCast (Sh n 128) (rowMaxV (scoreV q kk c)) Rows.sc128) (View.stores_vmem_bits_univ (Rows.pos128 (n := n)) rfl) k

/-- The running maximum at the mask and the accumulator at zero. -/
def reset (k : Code F M) : Code F M :=
  .ld .m (Rect.unit (s := S1024x128) ![0, 0] (Sh 1024 128).size (inb2 (Nat.le_refl 1024) (Nat.le_refl 128))) (Rows.pos128 (n := 1024)) fun _ =>
  .st .m (Rect.unit (s := S1024x128) ![0, 0] (Sh 1024 128).size (inb2 (Nat.le_refl 1024) (Nat.le_refl 128)))
    (shapeCast (Sh 1024 128) (broadcast (Sh 1024 128) (Named.named κ "mask" 0xF149F2CA#32 : F .f32)) Facts₀.shapeCasts_S1024x128_S1024x128)
    (View.stores_vmem_bits_univ (Rows.pos128 (n := 1024)) rfl) <|
  .ld .a (Rect.unit (s := S1024x256) ![0, 0] (Sh 1024 256).size (inb2 (Nat.le_refl 1024) (Nat.le_refl 256))) Facts₀.h_S1024x256 fun _ =>
  .st .a (Rect.unit (s := S1024x256) ![0, 0] (Sh 1024 256).size (inb2 (Nat.le_refl 1024) (Nat.le_refl 256)))
    (shapeCast (Sh 1024 256) (broadcast (Sh 1024 256) (Scalar.ofBits .f32 0x00000000#32 : F .f32)) Facts₀.shapeCasts_S1024x256_S1024x256)
    (View.stores_vmem_bits_univ Facts₀.h_S1024x256 rfl) k

/-- `n × 128` of a score buffer, rows from `lo`, columns from `col`. -/
def ldS (n lo col : ℕ) [Rows n] (hn : lo + n ≤ 1024) (hc : col + 128 ≤ 512) (b : Fin 4) (k : (Sh n 128 |>.Idx → Elt F .f32) → Code F M) : Code F M :=
  .ld (.s b) (Rect.unit (s := S1024x512) ![lo, col] (Sh n 128).size (inb2 hn hc)) (Rows.pos128 (n := n)) k

/-- The end of a step over `K` keys from `start`: the weights `p` times the values go into the accumulator, and the maximum
    is the new one. -/
def accum (n lo K : ℕ) (C : List Shape) [Rows n] [Keys n K C] (hn : lo + n ≤ 1024) (hh : Fin 2) (start : ℕ) (hs : start + K ≤ 4096)
    (m m' : FVec F (Sh n 128) .f32) (p : FVec F (Sh n K) .bf16) (k : Code F M) : Code F M :=
  .ld .x (Rect.unit (s := S2x4096x256) ![hh.val, start, 0] (⟨3, ![1, K, 256]⟩ : Shape).size
      (inb3 (show hh.val + 1 ≤ 2 by omega) hs (Nat.le_refl 256))) (Keys.pos n C) fun x =>
  .ld .a (Rect.unit (s := S1024x256) ![lo, 0] (Sh n 128).size (inb2 hn (show 0 + 128 ≤ 256 by omega))) (Rows.pos128 (n := n)) fun a0 =>
  .ld .a (Rect.unit (s := S1024x256) ![lo, 0] (Sh n 128).size (inb2 hn (show 0 + 128 ≤ 256 by omega))) (Rows.pos128 (n := n)) fun _ =>
  .st .a (Rect.unit (s := S1024x256) ![lo, 0] (Sh n 128).size (inb2 hn (show 0 + 128 ≤ 256 by omega)))
    (acc0V (exp2 (subf m m')) a0 (pvV (C := C) p x)) (View.stores_vmem_bits_univ (Rows.pos128 (n := n)) rfl) <|
  .ld .a (Rect.unit (s := S1024x256) ![lo, 128] (Sh n 128).size (inb2 hn (show 128 + 128 ≤ 256 by omega))) (Rows.pos128 (n := n)) fun a1 =>
  .ld .a (Rect.unit (s := S1024x256) ![lo, 128] (Sh n 128).size (inb2 hn (show 128 + 128 ≤ 256 by omega))) (Rows.pos128 (n := n)) fun _ =>
  .st .a (Rect.unit (s := S1024x256) ![lo, 128] (Sh n 128).size (inb2 hn (show 128 + 128 ≤ 256 by omega)))
    (acc1V (exp2 (subf m m')) a1 (pvV (C := C) p x)) (View.stores_vmem_bits_univ (Rows.pos128 (n := n)) rfl) <|
  .ld .m (Rect.unit (s := S1024x128) ![lo, 0] (Sh n 128).size (inb2 hn (Nat.le_refl 128))) (Rows.pos128 (n := n)) fun _ =>
  .st .m (Rect.unit (s := S1024x128) ![lo, 0] (Sh n 128).size (inb2 hn (Nat.le_refl 128)))
    (shapeCast (Sh n 128) m' Rows.sc128) (View.stores_vmem_bits_univ (Rows.pos128 (n := n)) rfl) k

/-- The running maximum of `n` rows from `lo`. -/
def ldM (n lo : ℕ) [Rows n] (hn : lo + n ≤ 1024) (k : (Sh n 128 |>.Idx → Elt F .f32) → Code F M) : Code F M :=
  .ld .m (Rect.unit (s := S1024x128) ![lo, 0] (Sh n 128).size (inb2 hn (Nat.le_refl 128))) (Rows.pos128 (n := n)) k

/-- Key tile `j` into the rows that all of its keys precede. -/
def full (n lo : ℕ) [Rows n] [Keys n 512 [Sh n 128, Sh n 128, Sh n 128, Sh n 128]] (hn : lo + n ≤ 1024)
    (hh : Fin 2) (j : ℕ) (hj : j < 8) (b : Fin 4) (k : Code F M) : Code F M :=
  ldM n lo hn fun m =>
  ldS n lo 0 hn (by omega) b fun s0 =>
  ldS n lo 128 hn (by omega) b fun s1 =>
  ldS n lo 256 hn (by omega) b fun s2 =>
  ldS n lo 384 hn (by omega) b fun s3 =>
  .ld (.r b) (Rect.unit (s := S1024x128) ![lo, 0] (Sh n 128).size (inb2 hn (Nat.le_refl 128))) (Rows.pos128 (n := n)) fun r =>
  accum n lo 512 [Sh n 128, Sh n 128, Sh n 128, Sh n 128] hn hh (512 * j) (by omega) m (maximumf m r)
    (concatenate (Sh n 512) 1 [⟨Sh n 128, wtV s0 (maximumf m r)⟩, ⟨Sh n 128, wtV s1 (maximumf m r)⟩, ⟨Sh n 128, wtV s2 (maximumf m r)⟩,
      ⟨Sh n 128, wtV s3 (maximumf m r)⟩] (Keys.cat (C := [Sh n 128, Sh n 128, Sh n 128, Sh n 128]))) k

/-- The first half of key tile `j` into the 256 rows it runs beside. -/
def diagA (lo : ℕ) (hn : lo + 256 ≤ 1024) (hh : Fin 2) (j : ℕ) (hj : j < 8) (b : Fin 4) (k : Code F M) : Code F M :=
  ldM 256 lo hn fun m =>
  ldS 256 lo 0 hn (by omega) b fun s0 =>
  ldS 256 lo 128 hn (by omega) b fun s1 =>
  accum 256 lo 256 [Sh 256 128, Sh 256 128] hn hh (512 * j) (by omega) m
    (joinV m (maximumf (maskV 0#32 s0) (maskV 128#32 s1)))
    (concatenate (Sh 256 256) 1 [⟨Sh 256 128, wtV (maskV 0#32 s0) (joinV m (maximumf (maskV 0#32 s0) (maskV 128#32 s1)))⟩,
      ⟨Sh 256 128, wtV (maskV 128#32 s1) (joinV m (maximumf (maskV 0#32 s0) (maskV 128#32 s1)))⟩]
      (Keys.cat (C := [Sh 256 128, Sh 256 128]))) k

/-- The largest entries of the four chunks, the last two masked. -/
def blkV (s0 s1 s2 s3 : FVec F (Sh 256 128) .f32) : FVec F (Sh 256 128) .f32 :=
  maximumf (maximumf (maximumf s0 s1) (maskV 0#32 s2)) (maskV 128#32 s3)

/-- Key tile `j` into the 256 rows its second half runs beside. -/
def diagB (lo : ℕ) (hn : lo + 256 ≤ 1024) (hh : Fin 2) (j : ℕ) (hj : j < 8) (b : Fin 4) (k : Code F M) : Code F M :=
  ldM 256 lo hn fun m =>
  ldS 256 lo 0 hn (by omega) b fun s0 =>
  ldS 256 lo 128 hn (by omega) b fun s1 =>
  ldS 256 lo 256 hn (by omega) b fun s2 =>
  ldS 256 lo 384 hn (by omega) b fun s3 =>
  accum 256 lo 512 [Sh 256 128, Sh 256 128, Sh 256 128, Sh 256 128] hn hh (512 * j) (by omega) m (joinV m (blkV s0 s1 s2 s3))
    (concatenate (Sh 256 512) 1 [⟨Sh 256 128, wtV s0 (joinV m (blkV s0 s1 s2 s3))⟩, ⟨Sh 256 128, wtV s1 (joinV m (blkV s0 s1 s2 s3))⟩,
      ⟨Sh 256 128, wtV (maskV 0#32 s2) (joinV m (blkV s0 s1 s2 s3))⟩, ⟨Sh 256 128, wtV (maskV 128#32 s3) (joinV m (blkV s0 s1 s2 s3))⟩]
      (Keys.cat (C := [Sh 256 128, Sh 256 128, Sh 256 128, Sh 256 128]))) k

/-- Head `hh`'s values or ones lie in their buffer, -/
theorem packedXin (hh d : Fin 2) : ∀ x : Fin 3, (![hh.val, 0, 128 * d.val] : Fin 3 → ℕ) x + (⟨3, ![1, 4096, 128]⟩ : Shape).size x ≤ S2x4096x256.size x :=
  inb3 (show hh.val + 1 ≤ 2 by omega) (Nat.le_refl 4096) (show 128 * d.val + 128 ≤ 256 by omega)

/-- in whole rows of packed entries, -/
theorem packedX (hh : Fin 2) (d : Fin 2) : (Rect.unit (s := S2x4096x256) ![hh.val, 0, 128 * d.val] (⟨3, ![1, 4096, 128]⟩ : Shape).size
    (inb3 (show hh.val + 1 ≤ 2 by omega) (Nat.le_refl 4096) (show 128 * d.val + 128 ≤ 256 by omega))).PackedRows (EltTy.packing .bf16) := by
  fin_cases hh <;> fin_cases d <;> decide

/-- as does a super tile's block of the output. -/
theorem packedO (it : Fin 4) (hh : Fin 2) : (Rect.unit (s := S4096x256) ![1024 * it.val, 128 * hh.val] (Sh 1024 128).size
    (inb2 (show 1024 * it.val + 1024 ≤ 4096 by omega) (show 128 * hh.val + 128 ≤ 256 by omega))).PackedRows (EltTy.packing .bf16) := by
  fin_cases it <;> fin_cases hh <;> decide

/-- Head `hh`'s values, and ones beside them. -/
def vfill (hx : (M .x).IsWhole) (hh : Fin 2) (k : Code F M) : Code F M :=
  .ld .v (Rect.unit (s := S4096x256) ![0, 128 * hh.val] (Sh 4096 128).size
      (inb2 (Nat.le_refl 4096) (show 128 * hh.val + 128 ≤ 256 by omega))) Facts₀.h_S4096x128 fun v =>
  .ld .x (Rect.unit (s := S2x4096x256) ![hh.val, 0, 128 * (0 : Fin 2).val] (⟨3, ![1, 4096, 128]⟩ : Shape).size
      (inb3 (show hh.val + 1 ≤ 2 by omega) (Nat.le_refl 4096) (by decide))) Facts₀.h_S1x4096x128 fun _ =>
  .st .x (Rect.unit (s := S2x4096x256) ![hh.val, 0, 128 * (0 : Fin 2).val] (⟨3, ![1, 4096, 128]⟩ : Shape).size
      (inb3 (show hh.val + 1 ≤ 2 by omega) (Nat.le_refl 4096) (by decide)))
    (shapeCast S1x4096x128 v Facts₀.shapeCasts_S4096x128_S1x4096x128)
    (View.stores_vmem Facts₀.h_S1x4096x128 (hx.storeExact_slice rfl _ (packedX hh 0)) (fun _ => rfl)) <|
  .ld .x (Rect.unit (s := S2x4096x256) ![hh.val, 0, 128 * (1 : Fin 2).val] (⟨3, ![1, 4096, 128]⟩ : Shape).size
      (inb3 (show hh.val + 1 ≤ 2 by omega) (Nat.le_refl 4096) (by decide))) Facts₀.h_S1x4096x128 fun _ =>
  .st .x (Rect.unit (s := S2x4096x256) ![hh.val, 0, 128 * (1 : Fin 2).val] (⟨3, ![1, 4096, 128]⟩ : Shape).size
      (inb3 (show hh.val + 1 ≤ 2 by omega) (Nat.le_refl 4096) (by decide)))
    (shapeCast S1x4096x128 (broadcast S4096x128 (Scalar.ofBits .bf16 0x3F80#16 : F .bf16)) Facts₀.shapeCasts_S4096x128_S1x4096x128)
    (View.stores_vmem Facts₀.h_S1x4096x128 (hx.storeExact_slice rfl _ (packedX hh 1)) (fun _ => rfl)) k

/-- The accumulated values over the accumulated weights, into the output's rows of super tile `it`. -/
def emit (ho : (M .o).IsWhole) (hh : Fin 2) (it : Fin 4) (k : Code F M) : Code F M :=
  .ld .a (Rect.unit (s := S1024x256) ![0, 0] (Sh 1024 128).size (inb2 (Nat.le_refl 1024) (show 0 + 128 ≤ 256 by omega))) Facts₀.h_S1024x128 fun a0 =>
  .ld .a (Rect.unit (s := S1024x256) ![0, 128] (Sh 1024 128).size (inb2 (Nat.le_refl 1024) (show 128 + 128 ≤ 256 by omega))) Facts₀.h_S1024x128 fun a1 =>
  .ld .o (Rect.unit (s := S4096x256) ![1024 * it.val, 128 * hh.val] (Sh 1024 128).size
      (inb2 (show 1024 * it.val + 1024 ≤ 4096 by omega) (show 128 * hh.val + 128 ≤ 256 by omega))) Facts₀.h_S1024x128 fun _ =>
  .st .o (Rect.unit (s := S4096x256) ![1024 * it.val, 128 * hh.val] (Sh 1024 128).size
      (inb2 (show 1024 * it.val + 1024 ≤ 4096 by omega) (show 128 * hh.val + 128 ≤ 256 by omega)))
    (truncf .bf16 (divf a0 a1) Facts₀.bitsLt_bf16_f32)
    (View.stores_vmem Facts₀.h_S1024x128 (ho.storeExact_slice rfl _ (packedO it hh)) (fun _ => rfl)) k

/-! ## The schedule -/

/-- Head `hh`'s two score buffers: the even key tiles', -/
def sa (hh : Fin 2) : Fin 4 := if hh = 0 then 0 else 2
/-- and the odd ones'. -/
def sb (hh : Fin 2) : Fin 4 := if hh = 0 then 1 else 3

/-- Key tiles `2 t` and `2 t + 1` into all rows of super tile `it`, the next tiles' scores ahead of them. -/
def pair (hh : Fin 2) (it : Fin 4) (t : ℕ) (ht : t < 3) (k : Code F M) : Code F M :=
  scores i 1024 0 (by omega) hh it (2 * t + 1) (by omega) (sb hh) <|
  full 1024 0 (by omega) hh (2 * t) (by omega) (sa hh) <|
  scores i 1024 0 (by omega) hh it (2 * t + 2) (by omega) (sa hh) <|
  full 1024 0 (by omega) hh (2 * t + 1) (by omega) (sb hh) k

/-- The first `n` pairs. -/
def pairs (hh : Fin 2) (it : Fin 4) : (n : ℕ) → n ≤ 3 → Code F M → Code F M
  | 0, _, k => k
  | n + 1, h, k => pairs hh it n (by omega) (pair i hh it n (by omega) k)

/-- Super tile `it` of head `hh`, `nxt` being the scores that are begun for the head that comes after. -/
def super (ho : (M .o).IsWhole) (hh : Fin 2) (it : Fin 4) (nxt : Code F M → Code F M) (k : Code F M) : Code F M :=
  reset <| pairs i hh it it.val (by omega) <|
  scores i 512 512 (by omega) hh it (2 * it.val + 1) (by omega) (sb hh) <| nxt <|
  diagA 0 (by omega) hh (2 * it.val) (by omega) (sa hh) <|
  diagB 256 (by omega) hh (2 * it.val) (by omega) (sa hh) <|
  full 512 512 (by omega) hh (2 * it.val) (by omega) (sa hh) <|
  diagA 512 (by omega) hh (2 * it.val + 1) (by omega) (sb hh) <|
  diagB 768 (by omega) hh (2 * it.val + 1) (by omega) (sb hh) <|
  emit ho hh it k

/-- Both heads of super tile `it`. -/
def both (ho : (M .o).IsWhole) (it : Fin 4) (nxt : Code F M → Code F M) (k : Code F M) : Code F M :=
  super i ho 0 it (scores i 1024 0 (by omega) 1 it 0 (by omega) (sa 1)) <| super i ho 1 it nxt k

/-- The kernel's body. -/
def body (hx : (M .x).IsWhole) (ho : (M .o).IsWhole) : Code F M :=
  vfill hx 0 <| vfill hx 1 <| scores i 1024 0 (by omega) 0 0 0 (by omega) (sa 0) <|
  both i ho 0 (scores i 1024 0 (by omega) 0 1 0 (by omega) (sa 0)) <|
  both i ho 1 (scores i 1024 0 (by omega) 0 2 0 (by omega) (sa 0)) <|
  both i ho 2 (scores i 1024 0 (by omega) 0 3 0 (by omega) (sa 0)) <|
  both i ho 3 id .done

end Phases

end Cert.Fox

end
-- ==== Proof.Read.lean ====
/- Arrays of two and three axes read at natural-number coordinates (zero outside), and what the phases' operations are there. -/
module

public import proofs.«01_k».proof.Proof.Fox
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pointwise.SelectCore

@[expose] public section

noncomputable section

namespace Cert.Fox

open Cert.KernelIdeal
open Idealize.ShloMosaic hiding ix1 ix2 ix3
open Idealize.ShloMosaic.TcCoe
open Idealize.ShloMosaic.ValueIdx (ix1 ix2 ix3)

abbrev Sh3 (a b c : ℕ) : Shape := ⟨3, ![a, b, c]⟩

/-- A matrix at natural-number coordinates, -/
def g2 {a b : ℕ} (f : (Sh a b).Idx → EReal) (x y : ℕ) : EReal :=
  if h : x < a ∧ y < b then f (ix2 ⟨x, h.1⟩ ⟨y, h.2⟩) else 0

/-- and an array of three axes. -/
def g3 {a b c : ℕ} (f : (Sh3 a b c).Idx → EReal) (x y z : ℕ) : EReal :=
  if h : x < a ∧ y < b ∧ z < c then f (ix3 ⟨x, h.1⟩ ⟨y, h.2.1⟩ ⟨z, h.2.2⟩) else 0

section
variable {a b c n k l o p u : ℕ}

theorem g2_of (f : (Sh a b).Idx → EReal) {x y : ℕ} (hx : x < a) (hy : y < b) : g2 f x y = f (ix2 ⟨x, hx⟩ ⟨y, hy⟩) := dif_pos ⟨hx, hy⟩

theorem g3_of (f : (Sh3 a b c).Idx → EReal) {x y z : ℕ} (hx : x < a) (hy : y < b) (hz : z < c) :
    g3 f x y z = f (ix3 ⟨x, hx⟩ ⟨y, hy⟩ ⟨z, hz⟩) := dif_pos ⟨hx, hy, hz⟩

theorem g2_ext {f f' : (Sh a b).Idx → EReal} (h : ∀ x < a, ∀ y < b, g2 f x y = g2 f' x y) : f = f' := by
  funext j
  have := h (j 0).val (j 0).isLt (j 1).val (j 1).isLt
  rw [g2_of f (j 0).isLt (j 1).isLt, g2_of f' (j 0).isLt (j 1).isLt] at this
  rw [ValueIdx.eq_ix2 j]
  exact this

theorem g2_ld (f : (Sh a b).Idx → EReal) (inb) {x y : ℕ} (hx : x < n) (hy : y < k) :
    g2 (a := n) (b := k) (fun i => f ((Rect.unit (s := Sh a b) ![o, p] (Sh n k).size inb).emb i)) x y = g2 f (o + x) (p + y) := by
  have h0 : o + n ≤ a := inb 0
  have h1 : p + k ≤ b := inb 1
  rw [g2_of _ hx hy, g2_of f (by omega) (by omega)]
  congr 1
  exact Shape.idx_ext₂ (by show o + 1 * x = o + x; omega) (by show p + 1 * y = p + y; omega)

theorem g3_ld (f : (Sh3 a b c).Idx → EReal) (inb) {x y z : ℕ} (hx : x < n) (hy : y < k) (hz : z < l) :
    g3 (a := n) (b := k) (c := l) (fun i => f ((Rect.unit (s := Sh3 a b c) ![o, p, u] (Sh3 n k l).size inb).emb i)) x y z
      = g3 f (o + x) (p + y) (u + z) := by
  have h0 : o + n ≤ a := inb 0
  have h1 : p + k ≤ b := inb 1
  have h2 : u + l ≤ c := inb 2
  rw [g3_of _ hx hy hz, g3_of f (by omega) (by omega) (by omega)]
  congr 1
  funext d
  match d with
  | ⟨0, _⟩ => exact Fin.ext (by show o + 1 * x = o + x; omega)
  | ⟨1, _⟩ => exact Fin.ext (by show p + 1 * y = p + y; omega)
  | ⟨2, _⟩ => exact Fin.ext (by show u + 1 * z = u + z; omega)

theorem g2_st (f : (Sh a b).Idx → EReal) (inb) (w : (Sh n k).Idx → EReal) {x y : ℕ} (hx : x < a) (hy : y < b) :
    g2 ((Rect.unit (s := Sh a b) ![o, p] (Sh n k).size inb).overlay f w) x y
      = if (o ≤ x ∧ x < o + n) ∧ (p ≤ y ∧ y < p + k) then g2 w (x - o) (y - p) else g2 f x y := by
  split
  · rename_i h
    rw [g2_of _ hx hy, g2_of w (x := x - o) (y := y - p) (by omega) (by omega), ← Rect.overlay_emb (Rect.unit (s := Sh a b) ![o, p] (Sh n k).size inb) f w]
    congr 1
    exact Shape.idx_ext₂ (by show x = o + 1 * (x - o); omega) (by show y = p + 1 * (y - p); omega)
  · rename_i h
    rw [g2_of _ hx hy, g2_of f hx hy]
    refine Rect.overlay_of_not_mem _ _ _ fun hm => h ?_
    have := Rect.mem_set_unit.mp hm
    exact ⟨this 0, this 1⟩

theorem g3_st (f : (Sh3 a b c).Idx → EReal) (inb) (w : (Sh3 n k l).Idx → EReal) {x y z : ℕ} (hx : x < a) (hy : y < b) (hz : z < c) :
    g3 ((Rect.unit (s := Sh3 a b c) ![o, p, u] (Sh3 n k l).size inb).overlay f w) x y z
      = if (o ≤ x ∧ x < o + n) ∧ (p ≤ y ∧ y < p + k) ∧ (u ≤ z ∧ z < u + l) then g3 w (x - o) (y - p) (z - u) else g3 f x y z := by
  split
  · rename_i h
    rw [g3_of _ hx hy hz, g3_of w (x := x - o) (y := y - p) (z := z - u) (by omega) (by omega) (by omega),
      ← Rect.overlay_emb (Rect.unit (s := Sh3 a b c) ![o, p, u] (Sh3 n k l).size inb) f w]
    congr 1
    funext d
    match d with
    | ⟨0, _⟩ => exact Fin.ext (by show x = o + 1 * (x - o); omega)
    | ⟨1, _⟩ => exact Fin.ext (by show y = p + 1 * (y - p); omega)
    | ⟨2, _⟩ => exact Fin.ext (by show z = u + 1 * (z - u); omega)
  · rename_i h
    rw [g3_of _ hx hy hz, g3_of f hx hy hz]
    refine Rect.overlay_of_not_mem _ _ _ fun hm => h ?_
    have := Rect.mem_set_unit.mp hm
    exact ⟨this 0, this 1, this 2⟩

end

/-! ## The phases' values -/

theorem ofBits_neg_inf : Ideal.ofBits .f32 0xFF800000#32 = ⊥ := by simp [Ideal.ofBits, Ideal.ieee]

section Values
variable {n : ℕ} [Rows n]

theorem g2_scoreV (q : (Sh n 128).Idx → EReal) (k : (Sh 512 128).Idx → EReal) (c : (Sh 1 512).Idx → EReal) {x y : ℕ} (hx : x < n) (hy : y < 512) :
    g2 (scoreV (F := Ideal) q k c) x y = (∑ d ∈ Finset.range 128, g2 q x d * g2 k y d) - g2 c 0 y := by
  rw [g2_of _ hx hy]
  show (FloatOps.matmul (F := Ideal) (φ₁ := .bf16) (φ₂ := .bf16) (DotDims.transposedRhs n 128 512) none q k (constant (F := Ideal) (Sh n 512) .f32 0x00000000#32) (ix2 ⟨x, hx⟩ ⟨y, hy⟩) : EReal)
    - broadcastTo (Sh n 512) c Rows.bc (ix2 ⟨x, hx⟩ ⟨y, hy⟩) = _
  rw [Ideal.matmul_transposedRhs_apply, ValueIdx.broadcastTo_1b_ab_apply, g2_of c Nat.one_pos hy, ← Fin.sum_univ_eq_sum_range]
  congr 1
  rw [show constant (F := Ideal) (Sh n 512) .f32 0x00000000#32 (ix2 ⟨x, hx⟩ ⟨y, hy⟩) = 0 from Ideal.ofBits_zero_f32, zero_add]
  refine Finset.sum_congr rfl fun d _ => ?_
  rw [g2_of q hx d.isLt, g2_of k hy d.isLt]

/-- A vector cast to a column and spread over the lanes. -/
theorem spread (v : (⟨1, ![n]⟩ : Shape).Idx → EReal) (h : (Sh n 1).Broadcasts (Sh n 128)) (h' : (⟨1, ![n]⟩ : Shape).ShapeCasts (Sh n 1))
    (x : Fin n) (y : Fin 128) : broadcastTo (Sh n 128) (shapeCast (Sh n 1) v h') h (ix2 x y) = v (ix1 x) := by
  rw [broadcastTo_apply _ h (ix2 x y) (ix2 x (0 : Fin 1)) ?_, ValueIdx.shapeCast_a_a1_apply]
  intro ax
  match ax with
  | ⟨0, _⟩ =>
    show x.val = if n = 1 then 0 else x.val
    split
    · have := x.isLt; omega
    · rfl
  | ⟨1, _⟩ => rfl

/-- A row's largest entry. -/
theorem rowMax {K : ℕ} (s : (Sh n K).Idx → EReal) (h : (Sh n K).Reduces [1] ⟨1, ![n]⟩) (x : ℕ) (hx : x < n) :
    multiReduction (F := Ideal) (φ := .f32) .maximumf [1] ⟨1, ![n]⟩ s 0xFF800000#32 h (.inl rfl) rfl (ix1 ⟨x, hx⟩)
      = (Finset.range K).sup fun y => g2 s x y := by
  refine (Ideal.multiReduction_maximumf_single s _ h _ _ _).trans ?_
  show (Finset.univ : Finset (Fin K)).fold max (Ideal.ofBits .f32 0xFF800000#32) (s ∘ h.lift (ix1 ⟨x, hx⟩)) = _
  rw [ofBits_neg_inf]
  show (Finset.univ : Finset (Fin K)).sup (s ∘ h.lift (ix1 ⟨x, hx⟩)) = _
  have e : (Finset.univ : Finset (Fin K)).sup (s ∘ h.lift (ix1 ⟨x, hx⟩)) = (Finset.univ : Finset (Fin K)).sup fun y => g2 s x y.val := by
    refine Finset.sup_congr rfl fun y _ => ?_
    rw [g2_of s hx y.isLt]
    show s _ = s _
    congr 1
    refine Shape.idx_ext₂ ?_ ?_
    · rfl
    · rfl
  rw [e]
  apply le_antisymm
  · exact Finset.sup_le fun y _ => Finset.le_sup (f := fun y => g2 s x y) (Finset.mem_range.mpr y.isLt)
  · exact Finset.sup_le fun y hy => Finset.le_sup (f := fun y : Fin K => g2 s x y.val) (Finset.mem_univ ⟨y, Finset.mem_range.mp hy⟩)

theorem g2_rowMaxV (s : (Sh n 512).Idx → EReal) {x y : ℕ} (hx : x < n) (hy : y < 128) :
    g2 (rowMaxV (F := Ideal) s) x y = (Finset.range 512).sup fun z => g2 s x z := by
  rw [g2_of _ hx hy]
  unfold rowMaxV
  rw [shapeCast_self _ Rows.scol1, spread, rowMax]

theorem g2_max (s t : (Sh n 128).Idx → EReal) {x y : ℕ} (hx : x < n) (hy : y < 128) :
    g2 (maximumf (F := Ideal) (φ := .f32) s t) x y = max (g2 s x y) (g2 t x y) := by
  rw [g2_of _ hx hy, g2_of s hx hy, g2_of t hx hy]; rfl

theorem g2_wtV (s m : (Sh n 128).Idx → EReal) {x y : ℕ} (hx : x < n) (hy : y < 128) :
    g2 (wtV (F := Ideal) s m) x y = Ideal.exp2 (g2 s x y - g2 m x y) := by
  rw [g2_of _ hx hy, g2_of s hx hy, g2_of m hx hy]; rfl

theorem g2_alpha (s m : (Sh n 128).Idx → EReal) {x y : ℕ} (hx : x < n) (hy : y < 128) :
    g2 (exp2 (F := Ideal) (φ := .f32) (subf s m)) x y = Ideal.exp2 (g2 s x y - g2 m x y) := by
  rw [g2_of _ hx hy, g2_of s hx hy, g2_of m hx hy]; rfl

theorem g2_pvV {K : ℕ} {C : List Shape} [Keys n K C] (p : (Sh n K).Idx → EReal) (v : (Sh3 1 K 256).Idx → EReal) {x y : ℕ} (hx : x < n) (hy : y < 256) :
    g2 (pvV (F := Ideal) (C := C) p v) x y = ∑ d ∈ Finset.range K, g2 p x d * g3 v 0 d y := by
  rw [g2_of _ hx hy]
  show (FloatOps.matmul (F := Ideal) (φ₁ := .bf16) (φ₂ := .bf16) (DotDims.plain n K 256) none p (shapeCast (α := EReal) (Sh K 256) v (Keys.sc n C)) (constant (F := Ideal) (Sh n 256) .f32 0x00000000#32) (ix2 ⟨x, hx⟩ ⟨y, hy⟩) : EReal) = _
  rw [Ideal.matmul_plain_apply, ← Fin.sum_univ_eq_sum_range,
    show constant (F := Ideal) (Sh n 256) .f32 0x00000000#32 (ix2 ⟨x, hx⟩ ⟨y, hy⟩) = 0 from Ideal.ofBits_zero_f32, zero_add]
  refine Finset.sum_congr rfl fun d _ => ?_
  rw [g2_of p hx d.isLt, g3_of v Nat.one_pos d.isLt hy]
  congr 1
  exact ValueIdx.shapeCast_1ab_ab_apply v _ d ⟨y, hy⟩

theorem g2_acc0V (al a : (Sh n 128).Idx → EReal) (pv : (Sh n 256).Idx → EReal) {x y : ℕ} (hx : x < n) (hy : y < 128) :
    g2 (acc0V (F := Ideal) al a pv) x y = g2 al x y * g2 a x y + g2 pv x y := by
  rw [g2_of _ hx hy, g2_of al hx hy, g2_of a hx hy, g2_of pv hx (by omega)]
  unfold acc0V
  rw [shapeCast_self]
  show al _ * a _ + extractStridedSlice (Sh n 128) ![0, 0] pv Rows.sl0 _ = _
  congr 1
  refine extractStridedSlice_apply _ _ _ _ _ fun ax => ?_
  match ax with
  | ⟨0, _⟩ => exact (Nat.zero_add _).symm
  | ⟨1, _⟩ => exact (Nat.zero_add _).symm

theorem g2_acc1V (al a : (Sh n 128).Idx → EReal) (pv : (Sh n 256).Idx → EReal) {x y : ℕ} (hx : x < n) (hy : y < 128) :
    g2 (acc1V (F := Ideal) al a pv) x y = g2 al x y * g2 a x y + g2 pv x (128 + y) := by
  rw [g2_of _ hx hy, g2_of al hx hy, g2_of a hx hy, g2_of pv hx (by omega)]
  unfold acc1V
  rw [shapeCast_self]
  show al _ * a _ + extractStridedSlice (Sh n 128) ![0, 128] pv Rows.sl1 _ = _
  congr 1
  refine extractStridedSlice_apply _ _ _ _ _ fun ax => ?_
  match ax with
  | ⟨0, _⟩ => exact (Nat.zero_add _).symm
  | ⟨1, _⟩ => rfl

/-- Four chunks of 128 side by side. -/
theorem g2_cat4 (p0 p1 p2 p3 : (Sh n 128).Idx → EReal) (h) {c x y : ℕ} (hx : x < n) (hy : y < 128) (hc : c < 4) :
    g2 (concatenate (Sh n 512) 1 [⟨Sh n 128, p0⟩, ⟨Sh n 128, p1⟩, ⟨Sh n 128, p2⟩, ⟨Sh n 128, p3⟩] h) x (128 * c + y)
      = g2 (![p0, p1, p2, p3] ⟨c, hc⟩) x y := by
  rw [g2_of _ hx (by omega), g2_of _ hx hy]
  refine concatenate_apply_piece (t := Sh n 512) 1 [⟨Sh n 128, p0⟩, ⟨Sh n 128, p1⟩, ⟨Sh n 128, p2⟩, ⟨Sh n 128, p3⟩] h _ c hc (Sh n 128) (![p0, p1, p2, p3] ⟨c, hc⟩) ?_ rfl (128 * c) ?_ _ ?_ rfl
  · match c, hc with
    | 0, _ => rfl
    | 1, _ => rfl
    | 2, _ => rfl
    | 3, _ => rfl
  · match c, hc with
    | 0, _ => rfl
    | 1, _ => rfl
    | 2, _ => rfl
    | 3, _ => rfl
  · intro b hb
    match b with
    | ⟨0, _⟩ => rfl
    | ⟨1, _⟩ => exact absurd rfl hb

theorem g2_cat2 (p0 p1 : (Sh n 128).Idx → EReal) (h) {c x y : ℕ} (hx : x < n) (hy : y < 128) (hc : c < 2) :
    g2 (concatenate (Sh n 256) 1 [⟨Sh n 128, p0⟩, ⟨Sh n 128, p1⟩] h) x (128 * c + y) = g2 (![p0, p1] ⟨c, hc⟩) x y := by
  rw [g2_of _ hx (by omega), g2_of _ hx hy]
  refine concatenate_apply_piece (t := Sh n 256) 1 [⟨Sh n 128, p0⟩, ⟨Sh n 128, p1⟩] h _ c hc (Sh n 128) (![p0, p1] ⟨c, hc⟩) ?_ rfl (128 * c) ?_ _ ?_ rfl
  · match c, hc with
    | 0, _ => rfl
    | 1, _ => rfl
  · match c, hc with
    | 0, _ => rfl
    | 1, _ => rfl
  · intro b hb
    match b with
    | ⟨0, _⟩ => rfl
    | ⟨1, _⟩ => exact absurd rfl hb

end Values

/-- The mask's value. -/
theorem mask_eq : (Named.named κ "mask" 0xF149F2CA#32 : Ideal .f32) = ⊥ := IdealRules.named_const.ideal_named_scalar _ _ _ _ rfl

theorem sge_ofNat {a b : ℕ} (ha : a < 1024) (hb : b < 1024) :
    IntOp.cmpi .sge (BitVec.ofNat 32 a) (BitVec.ofNat 32 b) = 1#1 ↔ b ≤ a := by
  have e : ∀ v < 1024, (BitVec.ofNat 32 v).toInt = v := fun v hv => by
    have hn : (BitVec.ofNat 32 v).toNat = v := by rw [BitVec.toNat_ofNat]; omega
    rw [BitVec.toInt_eq_toNat_of_lt (by rw [hn]; omega), hn]
  show BitVec.ofBool ((BitVec.ofNat 32 b).sle (BitVec.ofNat 32 a)) = 1#1 ↔ _
  rw [BitVec.sle_eq_decide, e a ha, e b hb]
  by_cases h : b ≤ a
  · simp [h]
  · simp [h]

theorem g2_maskV (off : ℕ) (ho : off < 512) (s : (Sh 256 128).Idx → EReal) {x y : ℕ} (hx : x < 256) (hy : y < 128) :
    g2 (maskV (F := Ideal) (BitVec.ofNat 32 off) s) x y = if y + off ≤ x then g2 s x y else ⊥ := by
  rw [g2_of _ hx hy, g2_of s hx hy]
  show (if IntOp.cmpi .sge (iota .tc (Sh 256 128) 32 [0] Facts₀.iota_S256x128_d0_w32 (ix2 ⟨x, hx⟩ ⟨y, hy⟩))
    (IntOp.addi (iota .tc (Sh 256 128) 32 [1] Facts₀.iota_S256x128_d1_w32 (ix2 ⟨x, hx⟩ ⟨y, hy⟩)) (BitVec.ofNat 32 off)) = 1 then _ else _) = _
  rw [iota_single_apply, iota_single_apply]
  show (if IntOp.cmpi .sge (BitVec.ofNat 32 x) (BitVec.ofNat 32 y + BitVec.ofNat 32 off) = 1#1 then _ else (Named.named κ "mask" 0xF149F2CA#32 : Ideal .f32)) = _
  rw [← BitVec.ofNat_add, mask_eq]
  exact if_congr (sge_ofNat (by omega) (by omega)) rfl rfl

theorem g2_joinV (m s : (Sh 256 128).Idx → EReal) {x y : ℕ} (hx : x < 256) (hy : y < 128) :
    g2 (joinV (F := Ideal) m s) x y = max (g2 m x y) ((Finset.range 128).sup fun z => g2 s x z) := by
  unfold joinV
  rw [g2_max _ _ hx hy, g2_of (broadcastTo _ _ _) hx hy, spread, rowMax]

end Cert.Fox

end
-- ==== Proof.Online.lean ====
/- Softmax sums over a growing prefix of the keys, in the extended reals: the running maximum, and the weights and weighted
   values summed relative to it. Scaling the sums to a new maximum is exact whatever the scores and the values are. -/
module

public import Idealize.ShloMosaic.PureOps.Ideal
public import Mathlib.Data.EReal.Inv

@[expose] public section

noncomputable section

namespace Cert.Fox

open Idealize.ShloMosaic

theorem exp2_nonneg (x : EReal) : 0 ≤ Ideal.exp2 x := by
  induction x with
  | bot => simp
  | top => simp
  | coe r => rw [Ideal.exp2_coe]; exact_mod_cast Real.rpow_nonneg (by norm_num) r

theorem exp2_ne_top {x : EReal} (h : x ≠ ⊤) : Ideal.exp2 x ≠ ⊤ := by
  induction x with
  | bot => simp
  | top => exact absurd rfl h
  | coe r => rw [Ideal.exp2_coe]; exact EReal.coe_ne_top _

/-- A difference from something as large is not `⊤`. -/
theorem sub_ne_top {s m : EReal} (h : s ≤ m) : s - m ≠ ⊤ := by
  induction m with
  | bot => rw [le_bot_iff.mp h]; simp
  | top => simp
  | coe r =>
    induction s with
    | bot => simp
    | top => exact absurd h (by simp)
    | coe t => rw [← EReal.coe_sub]; exact EReal.coe_ne_top _

/-- Scaling a weight to a larger maximum. -/
theorem exp2_mul {s m m' : EReal} (h : s ≤ m) (h' : m ≤ m') : Ideal.exp2 (m - m') * Ideal.exp2 (s - m) = Ideal.exp2 (s - m') := by
  induction m' with
  | bot => rw [le_bot_iff.mp h'] at h; rw [le_bot_iff.mp h', le_bot_iff.mp h]; simp
  | top => simp
  | coe r' =>
    induction m with
    | bot => rw [le_bot_iff.mp h]; simp
    | top => exact absurd h' (by simp)
    | coe r =>
      induction s with
      | bot => simp
      | top => exact absurd h (by simp)
      | coe t =>
        rw [← EReal.coe_sub, ← EReal.coe_sub, ← EReal.coe_sub, Ideal.exp2_coe, Ideal.exp2_coe, Ideal.exp2_coe, ← EReal.coe_mul]
        congr 1
        show (2 : ℝ) ^ (r - r') * (2 : ℝ) ^ (t - r) = (2 : ℝ) ^ (t - r')
        rw [← Real.rpow_add (by norm_num)]
        congr 1
        ring

/-- A finite factor that is not negative goes into a sum. -/
theorem mul_sum_of {ι : Type} {a : EReal} (h : 0 ≤ a) (ht : a ≠ ⊤) (s : Finset ι) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h ht, ih]

/-- The largest of the first `N` scores. -/
def top (T : ℕ → EReal) (N : ℕ) : EReal := (Finset.range N).sup T

/-- The weights of the first `N` keys, relative to their largest score, times `w`, summed. -/
def wsum (T w : ℕ → EReal) (N : ℕ) : EReal := ∑ y ∈ Finset.range N, Ideal.exp2 (T y - top T N) * w y

theorem wsum_congr {T T' w w' : ℕ → EReal} {N : ℕ} (hT : ∀ y < N, T y = T' y) (hw : ∀ y < N, w y = w' y) : wsum T w N = wsum T' w' N := by
  have e : top T N = top T' N := Finset.sup_congr rfl fun y hy => hT y (Finset.mem_range.mp hy)
  unfold wsum
  rw [e]
  exact Finset.sum_congr rfl fun y hy => by rw [hT y (Finset.mem_range.mp hy), hw y (Finset.mem_range.mp hy)]

theorem top_add (T : ℕ → EReal) (N K : ℕ) : top T (N + K) = max (top T N) ((Finset.range K).sup fun k => T (N + k)) := by
  induction K with
  | zero => simp
  | succ K ih =>
    unfold top at ih ⊢
    rw [← Nat.add_assoc, Finset.range_add_one, Finset.range_add_one, Finset.sup_insert, Finset.sup_insert, ih]
    show max _ (max _ _) = max _ (max _ _)
    rw [max_left_comm]

theorem le_top {T : ℕ → EReal} {N y : ℕ} (h : y < N) : T y ≤ top T N := Finset.le_sup (f := T) (Finset.mem_range.mpr h)

/-- One step: the sums scaled to the new maximum, and `K` further keys' terms. -/
theorem wsum_add (T w : ℕ → EReal) (N K : ℕ) :
    wsum T w (N + K) = Ideal.exp2 (top T N - top T (N + K)) * wsum T w N
      + ∑ k ∈ Finset.range K, Ideal.exp2 (T (N + k) - top T (N + K)) * w (N + k) := by
  have hM : top T N ≤ top T (N + K) := by rw [top_add]; exact le_max_left _ _
  unfold wsum
  rw [Finset.sum_range_add, mul_sum_of (exp2_nonneg _) (exp2_ne_top (sub_ne_top hM))]
  congr 1
  refine Finset.sum_congr rfl fun y hy => ?_
  rw [← mul_assoc, exp2_mul (le_top (Finset.mem_range.mp hy)) hM]

/-- Keys that are all masked change nothing. -/
theorem top_masked {T : ℕ → EReal} {N K : ℕ} (h : ∀ k < K, T (N + k) = ⊥) : top T (N + K) = top T N := by
  rw [top_add, Finset.sup_congr rfl (fun k hk => h k (Finset.mem_range.mp hk)), Finset.sup_bot, max_bot_right]

theorem wsum_masked {T : ℕ → EReal} (w : ℕ → EReal) {N K : ℕ} (h : ∀ k < K, T (N + k) = ⊥) : wsum T w (N + K) = wsum T w N := by
  unfold wsum
  rw [top_masked h, Finset.sum_range_add, Finset.sum_eq_zero (s := Finset.range K), add_zero]
  intro k hk
  rw [h k (Finset.mem_range.mp hk)]
  simp

/-- The scores of one row: those of the keys up to it, the others masked. -/
def masked (S : ℕ → EReal) (x : ℕ) (y : ℕ) : EReal := if y ≤ x then S y else ⊥

end Cert.Fox

end
-- ==== Proof.Steps.lean ====
/- What each phase of the attention kernel does to the buffers' contents, read row by row: a phase's line leaves contents at
   which the rows it works on hold the scores, or the softmax sums over a longer prefix of the keys. -/
module

public import proofs.«01_k».proof.Proof.Read
public import proofs.«01_k».proof.Proof.Online

@[expose] public section

noncomputable section

namespace Cert.Fox

open Cert.KernelIdeal
open Idealize.ShloMosaic hiding ix1 ix2 ix3
open Idealize.ShloMosaic.TcCoe
open Idealize.ShloMosaic.ValueIdx (ix1 ix2 ix3)

/-! ## The contents at coordinates -/

def qv (σ : St Ideal) : ℕ → ℕ → EReal := g2 (a := 4096) (b := 256) (σ .q)
def kv (σ : St Ideal) : ℕ → ℕ → EReal := g2 (a := 4096) (b := 256) (σ .k)
def vv (σ : St Ideal) : ℕ → ℕ → EReal := g2 (a := 4096) (b := 256) (σ .v)
def cv (σ : St Ideal) : ℕ → ℕ → EReal := g2 (a := 8) (b := 4096) (σ .c)
def ov (σ : St Ideal) : ℕ → ℕ → EReal := g2 (a := 4096) (b := 256) (σ .o)
def sv (σ : St Ideal) (b : Fin 4) : ℕ → ℕ → EReal := g2 (a := 1024) (b := 512) (σ (.s b))
def rv (σ : St Ideal) (b : Fin 4) : ℕ → ℕ → EReal := g2 (a := 1024) (b := 128) (σ (.r b))
def xv (σ : St Ideal) : ℕ → ℕ → ℕ → EReal := g3 (a := 2) (b := 4096) (c := 256) (σ .x)
def mv (σ : St Ideal) : ℕ → ℕ → EReal := g2 (a := 1024) (b := 128) (σ .m)
def av (σ : St Ideal) : ℕ → ℕ → EReal := g2 (a := 1024) (b := 256) (σ .a)

/-- The score of query row `x` against key row `y`, at head `hh` of the point's group, -/
def score (i : grid0.Coords) (σ : St Ideal) (hh x y : ℕ) : EReal :=
  (∑ d ∈ Finset.range 128, qv σ x (128 * hh + d) * kv σ y (128 * hh + d)) - cv σ (2 * (i 1).val + hh) y

/-- and the scores of row `x`, the keys after it masked. -/
def row (i : grid0.Coords) (σ : St Ideal) (hh x : ℕ) : ℕ → EReal := masked (score i σ hh x) x

/-- The inputs are `σ₀`'s, and the values stand with ones beside them. -/
structure Base (σ₀ σ : St Ideal) : Prop where
  q : σ .q = σ₀ .q
  k : σ .k = σ₀ .k
  v : σ .v = σ₀ .v
  c : σ .c = σ₀ .c
  x0 : ∀ hh < 2, ∀ y < 4096, ∀ d < 128, xv σ hh y d = vv σ₀ y (128 * hh + d)
  x1 : ∀ hh < 2, ∀ y < 4096, ∀ d < 128, xv σ hh y (128 + d) = 1

theorem Base.of {σ₀ σ σ' : St Ideal} (h : Base σ₀ σ) (hq : σ' .q = σ .q) (hk : σ' .k = σ .k) (hv : σ' .v = σ .v) (hc : σ' .c = σ .c)
    (hx : σ' .x = σ .x) : Base σ₀ σ' where
  q := hq.trans h.q
  k := hk.trans h.k
  v := hv.trans h.v
  c := hc.trans h.c
  x0 := by rw [show xv σ' = xv σ by unfold xv; rw [hx]]; exact h.x0
  x1 := by rw [show xv σ' = xv σ by unfold xv; rw [hx]]; exact h.x1

section
variable (i : grid0.Coords) (σ₀ : St Ideal)

/-- Buffers `b` hold, at row `ρ` of super tile `it`, the scores against key tile `j` and their largest. -/
def Scd (σ : St Ideal) (b : Fin 4) (hh it j ρ : ℕ) : Prop :=
  (∀ y < 512, sv σ b ρ y = score i σ₀ hh (1024 * it + ρ) (512 * j + y))
    ∧ ∀ l < 128, rv σ b ρ l = (Finset.range 512).sup fun y => score i σ₀ hh (1024 * it + ρ) (512 * j + y)

/-- The running maximum and the accumulator hold, at row `ρ` of super tile `it`, the sums over the first `N` keys. -/
def Acc (σ : St Ideal) (hh it ρ N : ℕ) : Prop :=
  (∀ l < 128, mv σ ρ l = top (row i σ₀ hh (1024 * it + ρ)) N)
    ∧ (∀ d < 128, av σ ρ d = wsum (row i σ₀ hh (1024 * it + ρ)) (fun y => vv σ₀ y (128 * hh + d)) N)
    ∧ ∀ d < 128, av σ ρ (128 + d) = wsum (row i σ₀ hh (1024 * it + ρ)) (fun _ => 1) N

variable {i σ₀}

theorem Scd.of {σ σ' : St Ideal} {b : Fin 4} {hh it j ρ : ℕ} (h : Scd i σ₀ σ b hh it j ρ) (hs : σ' (.s b) = σ (.s b)) (hr : σ' (.r b) = σ (.r b)) :
    Scd i σ₀ σ' b hh it j ρ := by
  unfold Scd sv rv at h ⊢
  rw [hs, hr]
  exact h

theorem Acc.of {σ σ' : St Ideal} {hh it ρ N : ℕ} (h : Acc i σ₀ σ hh it ρ N) (hm : ∀ l < 128, mv σ' ρ l = mv σ ρ l)
    (ha : ∀ d < 256, av σ' ρ d = av σ ρ d) : Acc i σ₀ σ' hh it ρ N :=
  ⟨fun l hl => (hm l hl).trans (h.1 l hl), fun d hd => (ha d (by omega)).trans (h.2.1 d hd),
    fun d hd => (ha (128 + d) (by omega)).trans (h.2.2 d hd)⟩

theorem Acc.of_eq {σ σ' : St Ideal} {hh it ρ N : ℕ} (h : Acc i σ₀ σ hh it ρ N) (hm : σ' .m = σ .m) (ha : σ' .a = σ .a) :
    Acc i σ₀ σ' hh it ρ N :=
  h.of (fun l _ => by unfold mv; rw [hm]) (fun d _ => by unfold av; rw [ha])

/-- The keys past a row add nothing. -/
theorem Acc.all {σ : St Ideal} {hh it ρ N : ℕ} (h : Acc i σ₀ σ hh it ρ N) (hx : 1024 * it + ρ < N) (hN : N ≤ 4096) :
    Acc i σ₀ σ hh it ρ 4096 := by
  have hm : ∀ k < 4096 - N, row i σ₀ hh (1024 * it + ρ) (N + k) = ⊥ := fun k _ => if_neg (by omega)
  have e : N + (4096 - N) = 4096 := by omega
  unfold Acc at h ⊢
  rw [← e, top_masked hm, wsum_masked _ hm]
  refine ⟨h.1, fun d hd => ?_, h.2.2⟩
  rw [wsum_masked _ hm]
  exact h.2.1 d hd

end

/-! ## The phases -/

section Phases
variable {M : Mems} {i : grid0.Coords} {σ₀ : St Ideal}

theorem scores_step {n lo : ℕ} [Rows n] (hn : lo + n ≤ 1024) (hh : Fin 2) (it : Fin 4) (j : ℕ) (hj : j < 8) (b : Fin 4)
    {σ : St Ideal} (hB : Base σ₀ σ) :
    ∃ σ' : St Ideal, (∀ k : Code Ideal M, (scores i n lo hn hh it j hj b k).eval σ = k.eval σ')
      ∧ (∀ b', b' ≠ .s b → b' ≠ .r b → σ' b' = σ b')
      ∧ ∀ ρ, lo ≤ ρ → ρ < lo + n → Scd i σ₀ σ' b hh it j ρ := by
  refine ⟨_, fun k => rfl, fun b' h1 h2 => ?_, fun ρ h1 h2 => ?_⟩
  · rw [Function.update_of_ne h2, Function.update_of_ne h1]
  have hit := it.isLt
  have hhh := hh.isLt
  have key : ∀ y < 512, g2 (a := n) (b := 512) (scoreV (F := Ideal) (n := n)
      (fun x => σ .q ((Rect.unit (s := S4096x256) ![1024 * it.val + lo, 128 * hh.val] (Sh n 128).size
        (inb2 (show 1024 * it.val + lo + n ≤ 4096 by omega) (show 128 * hh.val + 128 ≤ 256 by omega))).emb x))
      (fun x => σ .k ((Rect.unit (s := S4096x256) ![512 * j, 128 * hh.val] (Sh 512 128).size
        (inb2 (show 512 * j + 512 ≤ 4096 by omega) (show 128 * hh.val + 128 ≤ 256 by omega))).emb x))
      (fun x => σ .c ((Rect.unit (s := S8x4096) ![cRow i hh, 512 * j] (Sh 1 512).size
        (inb2 (cRow_lt i hh) (show 512 * j + 512 ≤ 4096 by omega))).emb x))) (ρ - lo) y = score i σ₀ hh (1024 * it.val + ρ) (512 * j + y) := by
    intro y hy
    rw [g2_scoreV _ _ _ (by omega) hy, g2_ld (a := 8) (b := 4096) (n := 1) (σ .c) _ Nat.one_pos hy, cRow_eq]
    unfold score qv kv cv
    rw [← hB.q, ← hB.k, ← hB.c]
    congr 1
    refine Finset.sum_congr rfl fun d hd => ?_
    have hd' := Finset.mem_range.mp hd
    rw [g2_ld (a := 4096) (b := 256) (σ .q) _ (by omega) hd', g2_ld (a := 4096) (b := 256) (σ .k) _ hy hd']
    congr 2
    omega
  refine ⟨fun y hy => ?_, fun l hl => ?_⟩
  · unfold sv
    rw [Function.update_of_ne (by simp), Function.update_self]
    refine (g2_st (a := 1024) (b := 512) (n := n) (k := 512) (o := lo) (p := 0) (σ (.s b)) (inb2 hn (Nat.le_refl 512)) _ (by omega) hy).trans ?_
    rw [if_pos ⟨⟨h1, h2⟩, by omega, by omega⟩, shapeCast_self]
    exact key y hy
  · unfold rv
    rw [Function.update_self, Function.update_of_ne (by simp)]
    refine (g2_st (a := 1024) (b := 128) (n := n) (k := 128) (o := lo) (p := 0) (σ (.r b)) (inb2 hn (Nat.le_refl 128)) _ (by omega) hl).trans ?_
    rw [if_pos ⟨⟨h1, h2⟩, by omega, by omega⟩, shapeCast_self, g2_rowMaxV _ (by omega) (by omega)]
    exact Finset.sup_congr rfl fun y hy => key y (Finset.mem_range.mp hy)

theorem reset_step (hh it : ℕ) (σ : St Ideal) :
    ∃ σ' : St Ideal, (∀ k : Code Ideal M, (reset k).eval σ = k.eval σ')
      ∧ (∀ b', b' ≠ .m → b' ≠ .a → σ' b' = σ b')
      ∧ ∀ ρ < 1024, Acc i σ₀ σ' hh it ρ 0 := by
  refine ⟨_, fun k => rfl, fun b' h1 h2 => ?_, fun ρ h1 => ⟨fun l hl => ?_, fun d hd => ?_, fun d hd => ?_⟩⟩
  · rw [Function.update_of_ne h2, Function.update_of_ne h1]
  · unfold mv
    rw [Function.update_of_ne (by simp), Function.update_self]
    refine (g2_st (a := 1024) (b := 128) (n := 1024) (k := 128) (o := 0) (p := 0) (σ .m) (inb2 (Nat.le_refl 1024) (Nat.le_refl 128)) _ h1 hl).trans ?_
    rw [if_pos ⟨⟨by omega, by omega⟩, by omega, by omega⟩, shapeCast_self, g2_of _ (by omega) (by omega)]
    exact mask_eq
  all_goals
    unfold av
    rw [Function.update_self, Function.update_of_ne (by simp)]
    refine (g2_st (a := 1024) (b := 256) (n := 1024) (k := 256) (o := 0) (p := 0) (σ .a) (inb2 (Nat.le_refl 1024) (Nat.le_refl 256)) _ h1 (by omega)).trans ?_
    rw [if_pos ⟨⟨by omega, by omega⟩, by omega, by omega⟩, shapeCast_self, g2_of _ (by omega) (by omega)]
    exact Ideal.ofBits_zero_f32

/-- The end of a step: the sums over `K` further keys, when `m'` and `p` are those keys' maximum and weights. -/
theorem accum_step {n lo K : ℕ} {C : List Shape} [Rows n] [Keys n K C] (hn : lo + n ≤ 1024) (hh : Fin 2) (it N : ℕ) (hs : N + K ≤ 4096)
    {m m' : (Sh n 128).Idx → EReal} {p : (Sh n K).Idx → EReal} {σ : St Ideal} (hB : Base σ₀ σ)
    (hA : ∀ ρ, lo ≤ ρ → ρ < lo + n → Acc i σ₀ σ hh it ρ N)
    (hm : ∀ x < n, ∀ l < 128, g2 m x l = mv σ (lo + x) l)
    (hm' : ∀ x < n, ∀ l < 128, g2 m' x l = top (row i σ₀ hh (1024 * it + (lo + x))) (N + K))
    (hp : ∀ x < n, ∀ y < K, g2 p x y = Ideal.exp2 (row i σ₀ hh (1024 * it + (lo + x)) (N + y) - top (row i σ₀ hh (1024 * it + (lo + x))) (N + K))) :
    ∃ σ' : St Ideal, (∀ k : Code Ideal M, (accum n lo K C hn hh N hs m m' p k).eval σ = k.eval σ')
      ∧ (∀ b', b' ≠ .m → b' ≠ .a → σ' b' = σ b')
      ∧ (∀ ρ, lo ≤ ρ → ρ < lo + n → Acc i σ₀ σ' hh it ρ (N + K))
      ∧ ∀ ρ < 1024, ¬ (lo ≤ ρ ∧ ρ < lo + n) → ∀ N', Acc i σ₀ σ hh it ρ N' → Acc i σ₀ σ' hh it ρ N' := by
  have hhh := hh.isLt
  -- the products at a row and a column of the values with ones beside them
  have pv : ∀ x < n, ∀ e < 256, g2 (pvV (F := Ideal) (C := C) p (fun z => σ .x ((Rect.unit (s := S2x4096x256) ![hh.val, N, 0] (Sh3 1 K 256).size
      (inb3 (show hh.val + 1 ≤ 2 by omega) hs (Nat.le_refl 256))).emb z))) x e
      = ∑ y ∈ Finset.range K, Ideal.exp2 (row i σ₀ hh (1024 * it + (lo + x)) (N + y) - top (row i σ₀ hh (1024 * it + (lo + x))) (N + K)) * xv σ hh (N + y) e := by
    intro x hx e he
    rw [g2_pvV (C := C) p _ hx he]
    refine Finset.sum_congr rfl fun y hy => ?_
    have hy' := Finset.mem_range.mp hy
    rw [hp x hx y hy', g3_ld (a := 2) (b := 4096) (c := 256) (σ .x) _ Nat.one_pos hy' he, Nat.add_zero, Nat.zero_add]
    rfl
  have al : ∀ x < n, ∀ l < 128, g2 (exp2 (F := Ideal) (φ := .f32) (subf m m')) x l
      = Ideal.exp2 (top (row i σ₀ hh (1024 * it + (lo + x))) N - top (row i σ₀ hh (1024 * it + (lo + x))) (N + K)) := by
    intro x hx l hl
    rw [g2_alpha _ _ hx hl, hm x hx l hl, hm' x hx l hl, (hA (lo + x) (by omega) (by omega)).1 l hl]
  refine ⟨_, fun k => rfl, fun b' h1 h2 => ?_, fun ρ h1 h2 => ?_, fun ρ h1 h2 N' h => ?_⟩
  · rw [Function.update_of_ne h1, Function.update_of_ne h2, Function.update_of_ne h2]
  · obtain ⟨x, rfl⟩ : ∃ x, ρ = lo + x := ⟨ρ - lo, by omega⟩
    have hx : x < n := by omega
    have hAx := hA (lo + x) h1 h2
    refine ⟨fun l hl => ?_, fun d hd => ?_, fun d hd => ?_⟩
    · unfold mv
      rw [Function.update_self, Function.update_of_ne (by simp), Function.update_of_ne (by simp)]
      refine (g2_st (a := 1024) (b := 128) (n := n) (k := 128) (o := lo) (p := 0) (σ .m) (inb2 hn (Nat.le_refl 128)) _ (by omega) hl).trans ?_
      rw [if_pos ⟨⟨by omega, by omega⟩, by omega, by omega⟩, shapeCast_self, Nat.add_sub_cancel_left]
      exact hm' x hx l hl
    · unfold av
      rw [Function.update_of_ne (by simp), Function.update_self, Function.update_self]
      refine (g2_st (a := 1024) (b := 256) (n := n) (k := 128) (o := lo) (p := 128) _ (inb2 hn (Nat.le_refl 256)) _ (by omega) (by omega)).trans ?_
      rw [if_neg (by omega)]
      refine (g2_st (a := 1024) (b := 256) (n := n) (k := 128) (o := lo) (p := 0) (σ .a) (inb2 hn (show 0 + 128 ≤ 256 by omega)) _ (by omega) (by omega)).trans ?_
      rw [if_pos ⟨⟨by omega, by omega⟩, by omega, by omega⟩, Nat.add_sub_cancel_left, Nat.sub_zero, g2_acc0V _ _ _ hx hd, al x hx d hd, wsum_add]
      congr 1
      · congr 1
        refine (g2_ld (a := 1024) (b := 256) (σ .a) _ hx hd).trans ?_
        rw [Nat.zero_add]
        exact hAx.2.1 d hd
      · refine (pv x hx d (by omega)).trans (Finset.sum_congr rfl fun y hy => ?_)
        have hy' := Finset.mem_range.mp hy
        rw [hB.x0 hh hhh (N + y) (by omega) d hd]
    · unfold av
      rw [Function.update_of_ne (by simp), Function.update_self, Function.update_self]
      refine (g2_st (a := 1024) (b := 256) (n := n) (k := 128) (o := lo) (p := 128) _ (inb2 hn (Nat.le_refl 256)) _ (by omega) (by omega)).trans ?_
      rw [if_pos ⟨⟨by omega, by omega⟩, by omega, by omega⟩, Nat.add_sub_cancel_left, Nat.add_sub_cancel_left, g2_acc1V _ _ _ hx hd, al x hx d hd,
        wsum_add]
      congr 1
      · congr 1
        refine (g2_ld (a := 1024) (b := 256) _ (inb2 hn (Nat.le_refl 256)) hx hd).trans ?_
        refine (g2_st (a := 1024) (b := 256) (n := n) (k := 128) (o := lo) (p := 0) (σ .a) (inb2 hn (show 0 + 128 ≤ 256 by omega)) _ (by omega) (by omega)).trans ?_
        rw [if_neg (by omega)]
        exact hAx.2.2 d hd
      · refine (pv x hx (128 + d) (by omega)).trans (Finset.sum_congr rfl fun y hy => ?_)
        have hy' := Finset.mem_range.mp hy
        rw [hB.x1 hh hhh (N + y) (by omega) d hd]
  · refine h.of (fun l hl => ?_) (fun d hd => ?_)
    · unfold mv
      rw [Function.update_self, Function.update_of_ne (by simp), Function.update_of_ne (by simp)]
      refine (g2_st (a := 1024) (b := 128) (n := n) (k := 128) (o := lo) (p := 0) (σ .m) (inb2 hn (Nat.le_refl 128)) _ h1 hl).trans ?_
      rw [if_neg (by omega)]
    · unfold av
      rw [Function.update_of_ne (by simp), Function.update_self, Function.update_self]
      refine (g2_st (a := 1024) (b := 256) (n := n) (k := 128) (o := lo) (p := 128) _ (inb2 hn (Nat.le_refl 256)) _ h1 hd).trans ?_
      rw [if_neg (by omega)]
      refine (g2_st (a := 1024) (b := 256) (n := n) (k := 128) (o := lo) (p := 0) (σ .a) (inb2 hn (show 0 + 128 ≤ 256 by omega)) _ h1 hd).trans ?_
      rw [if_neg (by omega)]

end Phases

end Cert.Fox

end
-- ==== Proof.Tiles.lean ====
/- The steps over one key tile: a tile that precedes its rows, and the two halves of a tile on the diagonal. -/
module

public import proofs.«01_k».proof.Proof.Steps

@[expose] public section

noncomputable section

namespace Cert.Fox

open Cert.KernelIdeal
open Idealize.ShloMosaic hiding ix1 ix2 ix3
open Idealize.ShloMosaic.TcCoe

theorem sup_add (f : ℕ → EReal) (a b : ℕ) : (Finset.range (a + b)).sup f = max ((Finset.range a).sup f) ((Finset.range b).sup fun k => f (a + k)) :=
  top_add f a b

/-- The largest of two chunks of 128, lane by lane first. -/
theorem sup2 (S : ℕ → EReal) : ((Finset.range 128).sup fun z => max (S z) (S (128 + z))) = (Finset.range 256).sup S := by
  rw [show 256 = 128 + 128 from rfl, sup_add]
  exact Finset.sup_sup

/-- The largest of four. -/
theorem sup4 (S : ℕ → EReal) :
    ((Finset.range 128).sup fun z => max (max (max (S z) (S (128 + z))) (S (256 + z))) (S (384 + z))) = (Finset.range 512).sup S := by
  rw [show 512 = 384 + 128 from rfl, sup_add, show 384 = 256 + 128 from rfl, sup_add, ← sup2]
  refine (Finset.sup_sup (f := fun z => max (max (S z) (S (128 + z))) (S (256 + z)))).trans ?_
  congr 1
  exact Finset.sup_sup

section
variable {n : ℕ} [Rows n]

/-- Four chunks of weights side by side. -/
theorem wts4 (s0 s1 s2 s3 m : (Sh n 128).Idx → EReal) (h : Shape.Concatenates [Sh n 128, Sh n 128, Sh n 128, Sh n 128] (Sh n 512) 1) (S : ℕ → EReal) (t : EReal) {x : ℕ} (hx : x < n)
    (h0 : ∀ z < 128, g2 s0 x z = S z) (h1 : ∀ z < 128, g2 s1 x z = S (128 + z)) (h2 : ∀ z < 128, g2 s2 x z = S (256 + z))
    (h3 : ∀ z < 128, g2 s3 x z = S (384 + z)) (hm : ∀ z < 128, g2 m x z = t) {y : ℕ} (hy : y < 512) :
    g2 (concatenate (Sh n 512) 1 [⟨Sh n 128, (wtV (F := Ideal) s0 m : (Sh n 128).Idx → EReal)⟩, ⟨Sh n 128, (wtV (F := Ideal) s1 m : (Sh n 128).Idx → EReal)⟩, ⟨Sh n 128, (wtV (F := Ideal) s2 m : (Sh n 128).Idx → EReal)⟩, ⟨Sh n 128, (wtV (F := Ideal) s3 m : (Sh n 128).Idx → EReal)⟩] h) x y
      = Ideal.exp2 (S y - t) := by
  obtain ⟨c, z, hc, hz, rfl⟩ : ∃ c z, c < 4 ∧ z < 128 ∧ y = 128 * c + z := ⟨y / 128, y % 128, by omega, by omega, by omega⟩
  refine (g2_cat4 _ _ _ _ h hx hz hc).trans ?_
  match c, hc with
  | 0, _ => exact (g2_wtV s0 m hx hz).trans (by rw [h0 z hz, hm z hz, Nat.mul_zero, Nat.zero_add])
  | 1, _ => exact (g2_wtV s1 m hx hz).trans (by rw [h1 z hz, hm z hz])
  | 2, _ => exact (g2_wtV s2 m hx hz).trans (by rw [h2 z hz, hm z hz])
  | 3, _ => exact (g2_wtV s3 m hx hz).trans (by rw [h3 z hz, hm z hz])

/-- Two chunks of weights side by side. -/
theorem wts2 (s0 s1 m : (Sh n 128).Idx → EReal) (h : Shape.Concatenates [Sh n 128, Sh n 128] (Sh n 256) 1) (S : ℕ → EReal) (t : EReal) {x : ℕ} (hx : x < n)
    (h0 : ∀ z < 128, g2 s0 x z = S z) (h1 : ∀ z < 128, g2 s1 x z = S (128 + z)) (hm : ∀ z < 128, g2 m x z = t) {y : ℕ} (hy : y < 256) :
    g2 (concatenate (Sh n 256) 1 [⟨Sh n 128, (wtV (F := Ideal) s0 m : (Sh n 128).Idx → EReal)⟩, ⟨Sh n 128, (wtV (F := Ideal) s1 m : (Sh n 128).Idx → EReal)⟩] h) x y = Ideal.exp2 (S y - t) := by
  obtain ⟨c, z, hc, hz, rfl⟩ : ∃ c z, c < 2 ∧ z < 128 ∧ y = 128 * c + z := ⟨y / 128, y % 128, by omega, by omega, by omega⟩
  refine (g2_cat2 _ _ h hx hz hc).trans ?_
  match c, hc with
  | 0, _ => exact (g2_wtV s0 m hx hz).trans (by rw [h0 z hz, hm z hz, Nat.mul_zero, Nat.zero_add])
  | 1, _ => exact (g2_wtV s1 m hx hz).trans (by rw [h1 z hz, hm z hz])

end

section
variable {M : Mems} {i : grid0.Coords} {σ₀ : St Ideal}

/-- What a step leaves: other buffers as they were, its rows' sums over `N` keys, other rows' sums unchanged. -/
def Stepped (i : grid0.Coords) (σ₀ σ σ' : St Ideal) (lo n hh it N : ℕ) : Prop :=
  (∀ b', b' ≠ .m → b' ≠ .a → σ' b' = σ b')
    ∧ (∀ ρ, lo ≤ ρ → ρ < lo + n → Acc i σ₀ σ' hh it ρ N)
    ∧ ∀ ρ < 1024, ¬ (lo ≤ ρ ∧ ρ < lo + n) → ∀ N', Acc i σ₀ σ hh it ρ N' → Acc i σ₀ σ' hh it ρ N'

/-- What a load of a chunk of a score buffer, -/
def sCh (n lo col : ℕ) (hn : lo + n ≤ 1024) (hc : col + 128 ≤ 512) (b : Fin 4) (σ : St Ideal) : (Sh n 128).Idx → EReal :=
  fun j => σ (.s b) ((Rect.unit (s := S1024x512) ![lo, col] (Sh n 128).size (inb2 hn hc)).emb j)

/-- of the running maximum, -/
def mCh (n lo : ℕ) (hn : lo + n ≤ 1024) (σ : St Ideal) : (Sh n 128).Idx → EReal :=
  fun j => σ .m ((Rect.unit (s := S1024x128) ![lo, 0] (Sh n 128).size (inb2 hn (Nat.le_refl 128))).emb j)

/-- and of a buffer of row maxima gives. -/
def rCh (n lo : ℕ) (hn : lo + n ≤ 1024) (b : Fin 4) (σ : St Ideal) : (Sh n 128).Idx → EReal :=
  fun j => σ (.r b) ((Rect.unit (s := S1024x128) ![lo, 0] (Sh n 128).size (inb2 hn (Nat.le_refl 128))).emb j)

/-- A chunk of a score buffer. -/
theorem ldS_eq {n lo col : ℕ} (hn : lo + n ≤ 1024) (hc : col + 128 ≤ 512) (b : Fin 4) (σ : St Ideal) {x z : ℕ} (hx : x < n) (hz : z < 128) :
    g2 (a := n) (b := 128) (sCh n lo col hn hc b σ) x z = sv σ b (lo + x) (col + z) :=
  g2_ld (a := 1024) (b := 512) (σ (.s b)) _ hx hz

/-- A chunk of the running maximum. -/
theorem ldM_eq {n lo : ℕ} (hn : lo + n ≤ 1024) (σ : St Ideal) {x z : ℕ} (hx : x < n) (hz : z < 128) :
    g2 (a := n) (b := 128) (mCh n lo hn σ) x z = mv σ (lo + x) z :=
  (g2_ld (a := 1024) (b := 128) (σ .m) _ hx hz).trans (by rw [Nat.zero_add]; rfl)

/-- A chunk of a buffer of row maxima. -/
theorem ldR_eq {n lo : ℕ} (hn : lo + n ≤ 1024) (b : Fin 4) (σ : St Ideal) {x z : ℕ} (hx : x < n) (hz : z < 128) :
    g2 (a := n) (b := 128) (rCh n lo hn b σ) x z = rv σ b (lo + x) z :=
  (g2_ld (a := 1024) (b := 128) (σ (.r b)) _ hx hz).trans (by rw [Nat.zero_add]; rfl)

theorem full_step {n lo : ℕ} [Rows n] [Keys n 512 [Sh n 128, Sh n 128, Sh n 128, Sh n 128]] (hn : lo + n ≤ 1024)
    (hh : Fin 2) (it j : ℕ) (hj : j < 8) (b : Fin 4) (hle : 512 * j + 512 ≤ 1024 * it + lo) {σ : St Ideal} (hB : Base σ₀ σ)
    (hS : ∀ ρ, lo ≤ ρ → ρ < lo + n → Scd i σ₀ σ b hh it j ρ) (hA : ∀ ρ, lo ≤ ρ → ρ < lo + n → Acc i σ₀ σ hh it ρ (512 * j)) :
    ∃ σ' : St Ideal, (∀ k : Code Ideal M, (full n lo hn hh j hj b k).eval σ = k.eval σ') ∧ Stepped i σ₀ σ σ' lo n hh it (512 * j + 512) := by
  have hrow : ∀ x < n, ∀ y < 512, row i σ₀ hh (1024 * it + (lo + x)) (512 * j + y) = score i σ₀ hh (1024 * it + (lo + x)) (512 * j + y) :=
    fun x _ y hy => if_pos (by omega)
  have hmm : ∀ x < n, ∀ l < 128, g2 (maximumf (F := Ideal) (φ := .f32)
      (mCh n lo hn σ)
      (rCh n lo hn b σ)) x l
      = top (row i σ₀ hh (1024 * it + (lo + x))) (512 * j + 512) := by
    intro x hx l hl
    rw [g2_max _ _ hx hl, ldM_eq hn σ hx hl, ldR_eq hn b σ hx hl, (hA _ (by omega) (by omega)).1 l hl, (hS _ (by omega) (by omega)).2 l hl, top_add]
    congr 1
    exact Finset.sup_congr rfl fun y hy => (hrow x hx y (Finset.mem_range.mp hy)).symm
  refine accum_step hn hh it (512 * j) (by omega) hB hA (fun x hx l hl => ldM_eq hn σ hx hl) hmm fun x hx y hy => ?_
  have hsv : ∀ y < 512, sv σ b (lo + x) y = row i σ₀ hh (1024 * it + (lo + x)) (512 * j + y) := fun y hy => by
    rw [hrow x hx y hy]; exact (hS _ (by omega) (by omega)).1 y hy
  refine wts4 _ _ _ _ _ _ (fun y => row i σ₀ hh (1024 * it + (lo + x)) (512 * j + y)) _ hx (fun z hz => ?_) (fun z hz => ?_) (fun z hz => ?_) (fun z hz => ?_)
    (fun z hz => hmm x hx z hz) hy
  · exact (ldS_eq hn (show 0 + 128 ≤ 512 by omega) b σ hx hz).trans (by rw [Nat.zero_add]; exact hsv z (by omega))
  · exact (ldS_eq hn (show 128 + 128 ≤ 512 by omega) b σ hx hz).trans (hsv _ (by omega))
  · exact (ldS_eq hn (show 256 + 128 ≤ 512 by omega) b σ hx hz).trans (hsv _ (by omega))
  · exact (ldS_eq hn (show 384 + 128 ≤ 512 by omega) b σ hx hz).trans (hsv _ (by omega))

theorem diagA_step {lo : ℕ} (hn : lo + 256 ≤ 1024) (hh : Fin 2) (it j : ℕ) (hj : j < 8) (b : Fin 4) (hle : 512 * j = 1024 * it + lo)
    {σ : St Ideal} (hB : Base σ₀ σ) (hS : ∀ ρ, lo ≤ ρ → ρ < lo + 256 → Scd i σ₀ σ b hh it j ρ)
    (hA : ∀ ρ, lo ≤ ρ → ρ < lo + 256 → Acc i σ₀ σ hh it ρ (512 * j)) :
    ∃ σ' : St Ideal, (∀ k : Code Ideal M, (diagA lo hn hh j hj b k).eval σ = k.eval σ') ∧ Stepped i σ₀ σ σ' lo 256 hh it (512 * j + 256) := by
  have hsv : ∀ x < 256, ∀ y < 512, sv σ b (lo + x) y = score i σ₀ hh (1024 * it + (lo + x)) (512 * j + y) :=
    fun x hx y hy => (hS _ (by omega) (by omega)).1 y hy
  have h0 : ∀ x < 256, ∀ z < 128, g2 (maskV (F := Ideal) 0#32
      (sCh 256 lo 0 hn (by omega) b σ)) x z
      = row i σ₀ hh (1024 * it + (lo + x)) (512 * j + z) := by
    intro x hx z hz
    refine (g2_maskV 0 (by omega) _ hx hz).trans ?_
    rw [ldS_eq hn (by omega) b σ hx hz, Nat.zero_add, hsv x hx z (by omega)]
    exact if_congr (by omega) rfl rfl
  have h1 : ∀ x < 256, ∀ z < 128, g2 (maskV (F := Ideal) 128#32
      (sCh 256 lo 128 hn (by omega) b σ)) x z
      = row i σ₀ hh (1024 * it + (lo + x)) (512 * j + (128 + z)) := by
    intro x hx z hz
    refine (g2_maskV 128 (by omega) _ hx hz).trans ?_
    rw [ldS_eq hn (by omega) b σ hx hz, hsv x hx _ (by omega)]
    exact if_congr (by omega) rfl rfl
  have hmm : ∀ x < 256, ∀ l < 128, g2 (joinV (F := Ideal)
      (mCh 256 lo hn σ)
      (maximumf (F := Ideal) (φ := .f32)
        (maskV (F := Ideal) 0#32 (sCh 256 lo 0 hn (by omega) b σ))
        (maskV (F := Ideal) 128#32 (sCh 256 lo 128 hn (by omega) b σ)))) x l
      = top (row i σ₀ hh (1024 * it + (lo + x))) (512 * j + 256) := by
    intro x hx l hl
    rw [g2_joinV _ _ hx hl, ldM_eq hn σ hx hl, (hA _ (by omega) (by omega)).1 l hl, top_add, ← sup2]
    congr 1
    refine Finset.sup_congr rfl fun z hz => ?_
    have hz' := Finset.mem_range.mp hz
    rw [g2_max _ _ hx hz', h0 x hx z hz', h1 x hx z hz']
  refine accum_step hn hh it (512 * j) (by omega) hB hA (fun x hx l hl => ldM_eq hn σ hx hl) hmm fun x hx y hy => ?_
  exact wts2 _ _ _ _ (fun y => row i σ₀ hh (1024 * it + (lo + x)) (512 * j + y)) _ hx (h0 x hx) (h1 x hx) (fun z hz => hmm x hx z hz) hy

theorem diagB_step {lo : ℕ} (hn : lo + 256 ≤ 1024) (hh : Fin 2) (it j : ℕ) (hj : j < 8) (b : Fin 4) (hle : 512 * j + 256 = 1024 * it + lo)
    {σ : St Ideal} (hB : Base σ₀ σ) (hS : ∀ ρ, lo ≤ ρ → ρ < lo + 256 → Scd i σ₀ σ b hh it j ρ)
    (hA : ∀ ρ, lo ≤ ρ → ρ < lo + 256 → Acc i σ₀ σ hh it ρ (512 * j)) :
    ∃ σ' : St Ideal, (∀ k : Code Ideal M, (diagB lo hn hh j hj b k).eval σ = k.eval σ') ∧ Stepped i σ₀ σ σ' lo 256 hh it (512 * j + 512) := by
  have hsv : ∀ x < 256, ∀ y < 512, sv σ b (lo + x) y = score i σ₀ hh (1024 * it + (lo + x)) (512 * j + y) :=
    fun x hx y hy => (hS _ (by omega) (by omega)).1 y hy
  have h0 : ∀ x < 256, ∀ z < 128, g2 (a := 256) (b := 128)
      (sCh 256 lo 0 hn (by omega) b σ) x z
      = row i σ₀ hh (1024 * it + (lo + x)) (512 * j + z) := by
    intro x hx z hz
    rw [ldS_eq hn (by omega) b σ hx hz, Nat.zero_add, hsv x hx z (by omega)]
    exact (if_pos (by omega)).symm
  have h1 : ∀ x < 256, ∀ z < 128, g2 (a := 256) (b := 128)
      (sCh 256 lo 128 hn (by omega) b σ) x z
      = row i σ₀ hh (1024 * it + (lo + x)) (512 * j + (128 + z)) := by
    intro x hx z hz
    rw [ldS_eq hn (by omega) b σ hx hz, hsv x hx _ (by omega)]
    exact (if_pos (by omega)).symm
  have h2 : ∀ x < 256, ∀ z < 128, g2 (maskV (F := Ideal) 0#32
      (sCh 256 lo 256 hn (by omega) b σ)) x z
      = row i σ₀ hh (1024 * it + (lo + x)) (512 * j + (256 + z)) := by
    intro x hx z hz
    refine (g2_maskV 0 (by omega) _ hx hz).trans ?_
    rw [ldS_eq hn (by omega) b σ hx hz, hsv x hx _ (by omega)]
    exact if_congr (by omega) rfl rfl
  have h3 : ∀ x < 256, ∀ z < 128, g2 (maskV (F := Ideal) 128#32
      (sCh 256 lo 384 hn (by omega) b σ)) x z
      = row i σ₀ hh (1024 * it + (lo + x)) (512 * j + (384 + z)) := by
    intro x hx z hz
    refine (g2_maskV 128 (by omega) _ hx hz).trans ?_
    rw [ldS_eq hn (by omega) b σ hx hz, hsv x hx _ (by omega)]
    exact if_congr (by omega) rfl rfl
  have hmm : ∀ x < 256, ∀ l < 128, g2 (joinV (F := Ideal)
      (mCh 256 lo hn σ)
      (blkV (F := Ideal)
        (sCh 256 lo 0 hn (by omega) b σ)
        (sCh 256 lo 128 hn (by omega) b σ)
        (sCh 256 lo 256 hn (by omega) b σ)
        (sCh 256 lo 384 hn (by omega) b σ))) x l
      = top (row i σ₀ hh (1024 * it + (lo + x))) (512 * j + 512) := by
    intro x hx l hl
    rw [g2_joinV _ _ hx hl, ldM_eq hn σ hx hl, (hA _ (by omega) (by omega)).1 l hl, top_add, ← sup4]
    congr 1
    refine Finset.sup_congr rfl fun z hz => ?_
    have hz' := Finset.mem_range.mp hz
    unfold blkV
    rw [g2_max _ _ hx hz', g2_max _ _ hx hz', g2_max _ _ hx hz', h0 x hx z hz', h1 x hx z hz', h2 x hx z hz', h3 x hx z hz']
  refine accum_step hn hh it (512 * j) (by omega) hB hA (fun x hx l hl => ldM_eq hn σ hx hl) hmm fun x hx y hy => ?_
  exact wts4 _ _ _ _ _ _ (fun y => row i σ₀ hh (1024 * it + (lo + x)) (512 * j + y)) _ hx (h0 x hx) (h1 x hx) (h2 x hx) (h3 x hx)
    (fun z hz => hmm x hx z hz) hy

end

end Cert.Fox

end
-- ==== Proof.Pass.lean ====
/- The attention kernel's body as a whole: super tile by super tile and head by head, the output is the weighted mean of the
   values. -/
module

public import proofs.«01_k».proof.Proof.Tiles

@[expose] public section

noncomputable section

namespace Cert.Fox

open Cert.KernelIdeal
open Idealize.ShloMosaic hiding ix1 ix2 ix3
open Idealize.ShloMosaic.TcCoe

/-- A head's result at row `x` and lane `d`: the values summed under the softmax weights, over the weights' sum. -/
def attn (i : grid0.Coords) (σ : St Ideal) (hh x d : ℕ) : EReal :=
  Ideal.div (wsum (row i σ hh x) (fun y => vv σ y (128 * hh + d)) 4096) (wsum (row i σ hh x) (fun _ => 1) 4096)

theorem sa_ne_sb (hh : Fin 2) : sa hh ≠ sb hh := by revert hh; decide
theorem one_eq_bf16 : Ideal.ofBits .bf16 0x3F80#16 = 1 := Ideal.ofBits_one_bf16

variable {M : Mems} {i : grid0.Coords} {σ₀ : St Ideal}

/-- One head's values and ones, into their buffer. -/
theorem vfill_step (hx : (M .x).IsWhole) (hh : Fin 2) (σ : St Ideal) :
    ∃ σ' : St Ideal, (∀ k : Code Ideal M, (vfill hx hh k).eval σ = k.eval σ')
      ∧ (∀ b', b' ≠ .x → σ' b' = σ b')
      ∧ (∀ y < 4096, ∀ d < 128, xv σ' hh y d = vv σ y (128 * hh + d))
      ∧ (∀ y < 4096, ∀ d < 128, xv σ' hh y (128 + d) = 1)
      ∧ ∀ h2 < 2, h2 ≠ hh.val → ∀ y < 4096, ∀ e < 256, xv σ' h2 y e = xv σ h2 y e := by
  have hhh := hh.isLt
  refine ⟨_, fun k => rfl, fun b' h1 => ?_, fun y hy d hd => ?_, fun y hy d hd => ?_, fun h2 h2' hne y hy e he => ?_⟩
  · rw [Function.update_of_ne h1, Function.update_of_ne h1]
  all_goals
    unfold xv
    rw [Function.update_self, Function.update_self]
  · refine (g3_st (a := 2) (b := 4096) (c := 256) (n := 1) (k := 4096) (l := 128) (o := hh.val) (p := 0) (u := 128) _ (packedXin hh 1) _ hhh hy (by omega)).trans ?_
    rw [if_neg (by omega)]
    refine (g3_st (a := 2) (b := 4096) (c := 256) (n := 1) (k := 4096) (l := 128) (o := hh.val) (p := 0) (u := 0) (σ .x) (packedXin hh 0) _ hhh hy (by omega)).trans ?_
    rw [if_pos ⟨⟨by omega, by omega⟩, ⟨by omega, by omega⟩, by omega, by omega⟩, Nat.sub_self, Nat.sub_zero, Nat.sub_zero,
      g3_of _ Nat.one_pos hy hd]
    refine (ValueIdx.shapeCast_ab_1ab_apply _ _ 0 ⟨y, hy⟩ ⟨d, hd⟩).trans ?_
    refine ((g2_of _ hy hd).symm.trans (g2_ld (a := 4096) (b := 256) (n := 4096) (k := 128) (σ .v) (inb2 (Nat.le_refl 4096) (show 128 * hh.val + 128 ≤ 256 by omega)) hy hd)).trans ?_
    rw [Nat.zero_add]; rfl
  · refine (g3_st (a := 2) (b := 4096) (c := 256) (n := 1) (k := 4096) (l := 128) (o := hh.val) (p := 0) (u := 128) _ (packedXin hh 1) _ hhh hy (by omega)).trans ?_
    rw [if_pos ⟨⟨by omega, by omega⟩, ⟨by omega, by omega⟩, by omega, by omega⟩, g3_of _ (by omega) (by omega) (by omega)]
    exact one_eq_bf16
  · refine (g3_st (a := 2) (b := 4096) (c := 256) (n := 1) (k := 4096) (l := 128) (o := hh.val) (p := 0) (u := 128) _ (packedXin hh 1) _ h2' hy he).trans ?_
    rw [if_neg (by omega)]
    refine (g3_st (a := 2) (b := 4096) (c := 256) (n := 1) (k := 4096) (l := 128) (o := hh.val) (p := 0) (u := 0) (σ .x) (packedXin hh 0) _ h2' hy he).trans ?_
    rw [if_neg (by omega)]

/-- A super tile's block of the output. -/
theorem emit_step (ho : (M .o).IsWhole) (hh : Fin 2) (it : Fin 4) {σ : St Ideal} (hA : ∀ ρ < 1024, Acc i σ₀ σ hh it ρ 4096) :
    ∃ σ' : St Ideal, (∀ k : Code Ideal M, (emit ho hh it k).eval σ = k.eval σ')
      ∧ (∀ b', b' ≠ .o → σ' b' = σ b')
      ∧ ∀ x < 4096, ∀ y < 256, ov σ' x y
        = if (1024 * it.val ≤ x ∧ x < 1024 * it.val + 1024) ∧ (128 * hh.val ≤ y ∧ y < 128 * hh.val + 128) then attn i σ₀ hh x (y - 128 * hh) else ov σ x y := by
  refine ⟨_, fun k => rfl, fun b' h1 => by rw [Function.update_of_ne h1], fun x hx y hy => ?_⟩
  have hit := it.isLt
  have hhh := hh.isLt
  unfold ov
  rw [Function.update_self]
  refine (g2_st (a := 4096) (b := 256) (n := 1024) (k := 128) (o := 1024 * it.val) (p := 128 * hh.val) (σ .o)
    (inb2 (show 1024 * it.val + 1024 ≤ 4096 by omega) (show 128 * hh.val + 128 ≤ 256 by omega)) _ hx hy).trans ?_
  split
  · rename_i h
    obtain ⟨ρ, rfl⟩ : ∃ ρ, x = 1024 * it.val + ρ := ⟨x - 1024 * it.val, by omega⟩
    obtain ⟨d, rfl⟩ : ∃ d, y = 128 * hh.val + d := ⟨y - 128 * hh.val, by omega⟩
    have hρ : ρ < 1024 := by omega
    have hd : d < 128 := by omega
    rw [Nat.add_sub_cancel_left, Nat.add_sub_cancel_left, g2_of _ hρ hd]
    have e0 := (g2_ld (a := 1024) (b := 256) (n := 1024) (k := 128) (o := 0) (p := 0) (σ .a) (inb2 (Nat.le_refl 1024) (show 0 + 128 ≤ 256 by omega)) hρ hd).trans
      (show _ = g2 (a := 1024) (b := 256) (σ .a) ρ d by rw [Nat.zero_add, Nat.zero_add])
    have e1 := (g2_ld (a := 1024) (b := 256) (n := 1024) (k := 128) (o := 0) (p := 128) (σ .a) (inb2 (Nat.le_refl 1024) (show 128 + 128 ≤ 256 by omega)) hρ hd).trans
      (show _ = g2 (a := 1024) (b := 256) (σ .a) ρ (128 + d) by rw [Nat.zero_add])
    unfold attn
    rw [← (hA ρ hρ).2.1 d hd, ← (hA ρ hρ).2.2 d hd]
    unfold av
    rw [← e0, ← e1, g2_of _ hρ hd, g2_of _ hρ hd]
    rfl
  · rfl

/-- Before key tile `2 n`: its scores stand ready, and every row holds the sums over the keys before it. -/
structure Ready (i : grid0.Coords) (σ₀ σ : St Ideal) (hh : Fin 2) (it n : ℕ) : Prop where
  base : Base σ₀ σ
  scd : ∀ ρ < 1024, Scd i σ₀ σ (sa hh) hh it (2 * n) ρ
  acc : ∀ ρ < 1024, Acc i σ₀ σ hh it ρ (512 * (2 * n))

theorem Stepped.base {σ σ' : St Ideal} {lo n hh it N : ℕ} (h : Stepped i σ₀ σ σ' lo n hh it N) (hB : Base σ₀ σ) : Base σ₀ σ' :=
  hB.of (h.1 _ (by simp) (by simp)) (h.1 _ (by simp) (by simp)) (h.1 _ (by simp) (by simp)) (h.1 _ (by simp) (by simp)) (h.1 _ (by simp) (by simp))

theorem Stepped.scd {σ σ' : St Ideal} {lo n hh it N : ℕ} (h : Stepped i σ₀ σ σ' lo n hh it N) {b : Fin 4} {hh' it' j ρ : ℕ}
    (hS : Scd i σ₀ σ b hh' it' j ρ) : Scd i σ₀ σ' b hh' it' j ρ :=
  hS.of (h.1 _ (by simp) (by simp)) (h.1 _ (by simp) (by simp))

/-- Contents that differ in the buffers of one set of scores alone. -/
def Touched (b : Fin 4) (σ σ' : St Ideal) : Prop := ∀ b', b' ≠ .s b → b' ≠ .r b → σ' b' = σ b'

theorem Touched.base {b : Fin 4} {σ σ' : St Ideal} (h : Touched b σ σ') (hB : Base σ₀ σ) : Base σ₀ σ' :=
  hB.of (h _ (by simp) (by simp)) (h _ (by simp) (by simp)) (h _ (by simp) (by simp)) (h _ (by simp) (by simp)) (h _ (by simp) (by simp))

theorem Touched.acc {b : Fin 4} {σ σ' : St Ideal} (h : Touched b σ σ') {hh it ρ N : ℕ} (hA : Acc i σ₀ σ hh it ρ N) : Acc i σ₀ σ' hh it ρ N :=
  hA.of_eq (h _ (by simp) (by simp)) (h _ (by simp) (by simp))

theorem Touched.scd {b b' : Fin 4} {σ σ' : St Ideal} (h : Touched b σ σ') (hne : b' ≠ b) {hh it j ρ : ℕ} (hS : Scd i σ₀ σ b' hh it j ρ) :
    Scd i σ₀ σ' b' hh it j ρ :=
  hS.of (h _ (by simp [hne]) (by simp)) (h _ (by simp) (by simp [hne]))

theorem pair_step (hh : Fin 2) (it : Fin 4) (t : ℕ) (ht : t < 3) (hle : t < it.val) {σ : St Ideal} (h : Ready i σ₀ σ hh it t) :
    ∃ σ' : St Ideal, (∀ k : Code Ideal M, (pair i hh it t ht k).eval σ = k.eval σ') ∧ Ready i σ₀ σ' hh it (t + 1) ∧ σ' .o = σ .o := by
  have hne := sa_ne_sb hh
  obtain ⟨σ1, e1, (t1 : Touched _ _ _), s1⟩ := scores_step (M := M) (i := i) (n := 1024) (lo := 0) (by omega) hh it (2 * t + 1) (by omega) (sb hh) h.base
  obtain ⟨σ2, e2, p2⟩ := full_step (M := M) (i := i) (n := 1024) (lo := 0) (by omega) hh it (2 * t) (by omega) (sa hh) (by omega) (t1.base h.base)
    (fun ρ _ hρ => t1.scd hne (h.scd ρ (by omega))) (fun ρ _ hρ => t1.acc (h.acc ρ (by omega)))
  have b2 := p2.base (t1.base h.base)
  obtain ⟨σ3, e3, (t3 : Touched _ _ _), s3⟩ := scores_step (M := M) (i := i) (n := 1024) (lo := 0) (by omega) hh it (2 * t + 2) (by omega) (sa hh) b2
  have b3 := t3.base b2
  obtain ⟨σ4, e4, p4⟩ := full_step (M := M) (i := i) (n := 1024) (lo := 0) (by omega) hh it (2 * t + 1) (by omega) (sb hh) (by omega) b3
    (fun ρ h0 hρ => t3.scd hne.symm (p2.scd (s1 ρ h0 hρ))) (fun ρ h0 hρ => t3.acc (p2.2.1 ρ h0 hρ))
  refine ⟨σ4, fun k => ?_, ⟨p4.base b3, fun ρ hρ => p4.scd (s3 ρ (by omega) (by omega)), fun ρ hρ => ?_⟩, ?_⟩
  · unfold pair
    rw [e1, e2, e3, e4]
  · have := p4.2.1 ρ (by omega) (by omega)
    rwa [show 512 * (2 * t + 1) + 512 = 512 * (2 * (t + 1)) by omega] at this
  · rw [p4.1 _ (by simp) (by simp), t3 _ (by simp) (by simp), p2.1 _ (by simp) (by simp), t1 _ (by simp) (by simp)]

theorem pairs_step (hh : Fin 2) (it : Fin 4) : ∀ (n : ℕ) (hn : n ≤ 3) (_ : n ≤ it.val) {σ : St Ideal} (_ : Ready i σ₀ σ hh it 0),
    ∃ σ' : St Ideal, (∀ k : Code Ideal M, (pairs i hh it n hn k).eval σ = k.eval σ') ∧ Ready i σ₀ σ' hh it n ∧ σ' .o = σ .o
  | 0, _, _, σ, h => ⟨σ, fun _ => rfl, h, rfl⟩
  | n + 1, hn, hle, σ, h => by
    obtain ⟨σ1, e1, r1, o1⟩ := pairs_step hh it n (by omega) (by omega) h
    obtain ⟨σ2, e2, r2, o2⟩ := pair_step (M := M) hh it n (by omega) (by omega) r1
    exact ⟨σ2, fun k => by unfold pairs; rw [e1, e2], r2, o2.trans o1⟩

/-- One super tile of one head: its block of the output is written, and the scores begun for the next head stand ready. -/
theorem super_step (ho : (M .o).IsWhole) (hh : Fin 2) (it : Fin 4) (nxt : Code Ideal M → Code Ideal M) (b : Fin 4) (hba : b ≠ sa hh) (hbb : b ≠ sb hh)
    (P : St Ideal → Prop) (hP : ∀ σ σ', σ' (.s b) = σ (.s b) → σ' (.r b) = σ (.r b) → P σ → P σ')
    (hnxt : ∀ σ, Base σ₀ σ → ∃ σ', (∀ k, (nxt k).eval σ = k.eval σ') ∧ Touched b σ σ' ∧ P σ')
    {σ : St Ideal} (hB : Base σ₀ σ) (hS : ∀ ρ < 1024, Scd i σ₀ σ (sa hh) hh it 0 ρ) :
    ∃ σ' : St Ideal, (∀ k : Code Ideal M, (super i ho hh it nxt k).eval σ = k.eval σ') ∧ Base σ₀ σ' ∧ P σ'
      ∧ ∀ x < 4096, ∀ y < 256, ov σ' x y
        = if (1024 * it.val ≤ x ∧ x < 1024 * it.val + 1024) ∧ (128 * hh.val ≤ y ∧ y < 128 * hh.val + 128) then attn i σ₀ hh x (y - 128 * hh) else ov σ x y := by
  have hne := sa_ne_sb hh
  have hit := it.isLt
  obtain ⟨σ0, e0, k0, a0⟩ := reset_step (M := M) (i := i) (σ₀ := σ₀) hh it σ
  have b0 : Base σ₀ σ0 := hB.of (k0 _ (by simp) (by simp)) (k0 _ (by simp) (by simp)) (k0 _ (by simp) (by simp)) (k0 _ (by simp) (by simp)) (k0 _ (by simp) (by simp))
  obtain ⟨σ1, e1, r1, o1⟩ := pairs_step (M := M) hh it it.val (by omega) (Nat.le_refl _)
    (show Ready i σ₀ σ0 hh it 0 from ⟨b0, fun ρ hρ => (hS ρ hρ).of (k0 _ (by simp) (by simp)) (k0 _ (by simp) (by simp)), a0⟩)
  obtain ⟨σ2, e2, (t2 : Touched _ _ _), s2⟩ := scores_step (M := M) (i := i) (n := 512) (lo := 512) (by omega) hh it (2 * it.val + 1) (by omega) (sb hh) r1.base
  have b2 := t2.base r1.base
  obtain ⟨σ3, e3, t3, p3⟩ := hnxt σ2 b2
  have b3 := t3.base b2
  have A3 : ∀ ρ < 1024, Acc i σ₀ σ3 hh it ρ (512 * (2 * it.val)) := fun ρ hρ => t3.acc (t2.acc (r1.acc ρ hρ))
  have S3 : ∀ ρ < 1024, Scd i σ₀ σ3 (sa hh) hh it (2 * it.val) ρ := fun ρ hρ => t3.scd hba.symm (t2.scd hne (r1.scd ρ hρ))
  have S3' : ∀ ρ, 512 ≤ ρ → ρ < 1024 → Scd i σ₀ σ3 (sb hh) hh it (2 * it.val + 1) ρ := fun ρ h0 hρ => t3.scd hbb.symm (s2 ρ h0 (by omega))
  obtain ⟨σ4, e4, q4⟩ := diagA_step (M := M) (i := i) (lo := 0) (by omega) hh it (2 * it.val) (by omega) (sa hh) (by omega) b3
    (fun ρ _ hρ => S3 ρ (by omega)) (fun ρ _ hρ => A3 ρ (by omega))
  have b4 := q4.base b3
  obtain ⟨σ5, e5, q5⟩ := diagB_step (M := M) (i := i) (lo := 256) (by omega) hh it (2 * it.val) (by omega) (sa hh) (by omega) b4
    (fun ρ _ hρ => q4.scd (S3 ρ (by omega))) (fun ρ _ hρ => q4.2.2 ρ (by omega) (by omega) _ (A3 ρ (by omega)))
  have b5 := q5.base b4
  obtain ⟨σ6, e6, q6⟩ := full_step (M := M) (i := i) (n := 512) (lo := 512) (by omega) hh it (2 * it.val) (by omega) (sa hh) (by omega) b5
    (fun ρ _ hρ => q5.scd (q4.scd (S3 ρ (by omega))))
    (fun ρ _ hρ => q5.2.2 ρ (by omega) (by omega) _ (q4.2.2 ρ (by omega) (by omega) _ (A3 ρ (by omega))))
  have b6 := q6.base b5
  have eN : 512 * (2 * it.val) + 512 = 512 * (2 * it.val + 1) := by omega
  rw [eN] at q6
  obtain ⟨σ7, e7, q7⟩ := diagA_step (M := M) (i := i) (lo := 512) (by omega) hh it (2 * it.val + 1) (by omega) (sb hh) (by omega) b6
    (fun ρ _ hρ => q6.scd (q5.scd (q4.scd (S3' ρ (by omega) (by omega))))) (fun ρ _ hρ => q6.2.1 ρ (by omega) (by omega))
  have b7 := q7.base b6
  obtain ⟨σ8, e8, q8⟩ := diagB_step (M := M) (i := i) (lo := 768) (by omega) hh it (2 * it.val + 1) (by omega) (sb hh) (by omega) b7
    (fun ρ _ hρ => q7.scd (q6.scd (q5.scd (q4.scd (S3' ρ (by omega) (by omega))))))
    (fun ρ _ hρ => q7.2.2 ρ (by omega) (by omega) _ (q6.2.1 ρ (by omega) (by omega)))
  have b8 := q8.base b7
  have A8 : ∀ ρ < 1024, Acc i σ₀ σ8 hh it ρ 4096 := by
    intro ρ hρ
    by_cases h1 : ρ < 256
    · exact (q8.2.2 ρ hρ (by omega) _ (q7.2.2 ρ hρ (by omega) _ (q6.2.2 ρ hρ (by omega) _ (q5.2.2 ρ hρ (by omega) _
        (q4.2.1 ρ (by omega) (by omega)))))).all (by omega) (by omega)
    by_cases h2 : ρ < 512
    · exact (q8.2.2 ρ hρ (by omega) _ (q7.2.2 ρ hρ (by omega) _ (q6.2.2 ρ hρ (by omega) _
        (q5.2.1 ρ (by omega) (by omega))))).all (by omega) (by omega)
    by_cases h3 : ρ < 768
    · exact (q8.2.2 ρ hρ (by omega) _ (q7.2.1 ρ (by omega) (by omega))).all (by omega) (by omega)
    · exact (q8.2.1 ρ (by omega) (by omega)).all (by omega) (by omega)
  obtain ⟨σ9, e9, k9, o9⟩ := emit_step (M := M) ho hh it A8
  have kept : ∀ b', b' ≠ .m → b' ≠ .a → σ8 b' = σ3 b' := fun b' h1 h2 => by
    rw [q8.1 b' h1 h2, q7.1 b' h1 h2, q6.1 b' h1 h2, q5.1 b' h1 h2, q4.1 b' h1 h2]
  refine ⟨σ9, fun k => ?_, b8.of (k9 _ (by simp)) (k9 _ (by simp)) (k9 _ (by simp)) (k9 _ (by simp)) (k9 _ (by simp)), ?_, fun x hx y hy => ?_⟩
  · unfold super
    rw [e0, e1, e2, e3, e4, e5, e6, e7, e8, e9]
  · refine hP σ3 σ9 ?_ ?_ p3
    · rw [k9 _ (by simp), kept _ (by simp) (by simp)]
    · rw [k9 _ (by simp), kept _ (by simp) (by simp)]
  · rw [o9 x hx y hy]
    have eo : σ8 .o = σ .o := by
      rw [kept _ (by simp) (by simp), t3 _ (by simp) (by simp), t2 _ (by simp) (by simp), o1, k0 _ (by simp) (by simp)]
    rw [show ov σ8 = ov σ by unfold ov; rw [eo]]

/-- The scores of a super tile's first key tile stand ready. -/
def First (i : grid0.Coords) (σ₀ : St Ideal) (hh : Fin 2) (it : Fin 4) (σ : St Ideal) : Prop :=
  ∀ ρ < 1024, Scd i σ₀ σ (sa hh) hh it 0 ρ

theorem first_step (hh : Fin 2) (it : Fin 4) (σ : St Ideal) (hB : Base σ₀ σ) :
    ∃ σ', (∀ k : Code Ideal M, (scores i 1024 0 (by omega) hh it 0 (by omega) (sa hh) k).eval σ = k.eval σ') ∧ Touched (sa hh) σ σ' ∧ First i σ₀ hh it σ' := by
  obtain ⟨σ', e, t, s⟩ := scores_step (M := M) (i := i) (n := 1024) (lo := 0) (by omega) hh it 0 (by omega) (sa hh) hB
  exact ⟨σ', e, t, fun ρ hρ => s ρ (by omega) (by omega)⟩

theorem First.of {hh : Fin 2} {it : Fin 4} {σ σ' : St Ideal} (hs : σ' (.s (sa hh)) = σ (.s (sa hh))) (hr : σ' (.r (sa hh)) = σ (.r (sa hh)))
    (h : First i σ₀ hh it σ) : First i σ₀ hh it σ' := fun ρ hρ => (h ρ hρ).of hs hr

/-- The output's first `n` super tiles are the attention. -/
def Upto (i : grid0.Coords) (σ₀ σ : St Ideal) (n : ℕ) : Prop :=
  ∀ x < 4096, ∀ y < 256, x < 1024 * n → ov σ x y = attn i σ₀ (y / 128) x (y % 128)

/-- Both heads of one super tile. -/
theorem both_step (ho : (M .o).IsWhole) (it : Fin 4) (nxt : Code Ideal M → Code Ideal M)
    (P : St Ideal → Prop) (hP : ∀ σ σ', σ' (.s (sa 0)) = σ (.s (sa 0)) → σ' (.r (sa 0)) = σ (.r (sa 0)) → P σ → P σ')
    (hnxt : ∀ σ, Base σ₀ σ → ∃ σ', (∀ k, (nxt k).eval σ = k.eval σ') ∧ Touched (sa 0) σ σ' ∧ P σ')
    {σ : St Ideal} (hB : Base σ₀ σ) (hS : First i σ₀ 0 it σ) (hU : Upto i σ₀ σ it.val) :
    ∃ σ' : St Ideal, (∀ k : Code Ideal M, (both i ho it nxt k).eval σ = k.eval σ') ∧ Base σ₀ σ' ∧ P σ' ∧ Upto i σ₀ σ' (it.val + 1) := by
  obtain ⟨σ1, e1, b1, f1, o1⟩ := super_step (M := M) ho 0 it (scores i 1024 0 (by omega) 1 it 0 (by omega) (sa 1)) (sa 1) (by decide) (by decide)
    (First i σ₀ 1 it) (fun _ _ hs hr => First.of hs hr) (fun σ hσ => first_step 1 it σ hσ) hB hS
  obtain ⟨σ2, e2, b2, p2, o2⟩ := super_step (M := M) ho 1 it nxt (sa 0) (by decide) (by decide) P hP hnxt b1 f1
  refine ⟨σ2, fun k => by unfold both; rw [e1, e2], b2, p2, fun x hx y hy hlt => ?_⟩
  rw [o2 x hx y hy, o1 x hx y hy]
  have v0 : (0 : Fin 2).val = 0 := rfl
  have v1 : (1 : Fin 2).val = 1 := rfl
  rw [v0, v1]
  by_cases h : x < 1024 * it.val
  · rw [if_neg (by omega), if_neg (by omega)]
    exact hU x hx y hy h
  · by_cases hy' : y < 128
    · rw [if_neg (by omega), if_pos (by omega), show y / 128 = 0 by omega, show y - 128 * 0 = y % 128 by omega]
    · rw [if_pos (by omega), show y / 128 = 1 by omega, show y - 128 * 1 = y % 128 by omega]

/-- The kernel's body: from any contents, the inputs stay and the output is the attention. -/
theorem body_step (i : grid0.Coords) (hx : (M .x).IsWhole) (ho : (M .o).IsWhole) (σ : St Ideal) :
    ∃ σ' : St Ideal, (body i hx ho).eval σ = σ' ∧ σ' .q = σ .q ∧ σ' .k = σ .k ∧ σ' .v = σ .v ∧ σ' .c = σ .c
      ∧ ∀ x < 4096, ∀ y < 256, ov σ' x y = attn i σ (y / 128) x (y % 128) := by
  obtain ⟨σ1, e1, k1, x1, w1, _⟩ := vfill_step hx 0 σ
  obtain ⟨σ2, e2, k2, x2, w2, n2⟩ := vfill_step hx 1 σ1
  have ev : vv σ1 = vv σ := by unfold vv; rw [k1 _ (by simp)]
  have b2 : Base σ σ2 := by
    refine ⟨(k2 _ (by simp)).trans (k1 _ (by simp)), (k2 _ (by simp)).trans (k1 _ (by simp)), (k2 _ (by simp)).trans (k1 _ (by simp)),
      (k2 _ (by simp)).trans (k1 _ (by simp)), fun hh hhh y hy d hd => ?_, fun hh hhh y hy d hd => ?_⟩
    · match hh, hhh with
      | 0, _ => exact (n2 0 (by omega) (by decide) y hy d (by omega)).trans (x1 y hy d hd)
      | 1, _ => exact (x2 y hy d hd).trans (by rw [ev]; rfl)
    · match hh, hhh with
      | 0, _ => exact (n2 0 (by omega) (by decide) y hy (128 + d) (by omega)).trans (w1 y hy d hd)
      | 1, _ => exact w2 y hy d hd
  obtain ⟨σ3, e3, t3, f3⟩ := first_step (M := M) (i := i) 0 0 σ2 b2
  obtain ⟨σ4, e4, b4, f4, u4⟩ := both_step ho 0 (scores i 1024 0 (by omega) 0 1 0 (by omega) (sa 0)) (First i σ 0 1) (fun _ _ hs hr => First.of hs hr)
    (fun τ hτ => first_step 0 1 τ hτ) (t3.base b2) f3 (fun x _ y _ h => absurd h (by simp))
  obtain ⟨σ5, e5, b5, f5, u5⟩ := both_step ho 1 (scores i 1024 0 (by omega) 0 2 0 (by omega) (sa 0)) (First i σ 0 2) (fun _ _ hs hr => First.of hs hr)
    (fun τ hτ => first_step 0 2 τ hτ) b4 f4 u4
  obtain ⟨σ6, e6, b6, f6, u6⟩ := both_step ho 2 (scores i 1024 0 (by omega) 0 3 0 (by omega) (sa 0)) (First i σ 0 3) (fun _ _ hs hr => First.of hs hr)
    (fun τ hτ => first_step 0 3 τ hτ) b5 f5 u5
  obtain ⟨σ7, e7, b7, _, u7⟩ := both_step ho 3 id (fun _ => True) (fun _ _ _ _ _ => trivial)
    (fun τ _ => ⟨τ, fun _ => rfl, fun _ _ _ => rfl, trivial⟩) b6 f6 u6
  refine ⟨σ7, ?_, b7.q, b7.k, b7.v, b7.c, fun x hx y hy => u7 x hx y hy (by show x < 1024 * (3 + 1); omega)⟩
  unfold body
  rw [e1, e2, e3, e4, e5, e6, e7]
  rfl

end Cert.Fox

end
-- ==== Proof.BodyEq.lean ====
/- The printed body of the attention kernel is the sequence of its phases. -/
module

public import proofs.«01_k».proof.Proof.Fox

@[expose] public section

set_option maxRecDepth 65536

noncomputable section

namespace Cert.Fox

open Cert.KernelIdeal Cert.KernelIdeal.Gen
open Idealize.ShloMosaic Idealize.ShloMosaic.TcCoe

variable {F : FTy → Type} [FloatOps F] [Named F]

/-- The memrefs of a point. -/
def mem0 (t : Fin cfg0.N) : Mems
  | .q => ms0_0 t | .k => ms0_1 t | .v => ms0_2 t | .c => ms0_3 t | .o => ms0_4 t
  | .s ⟨0, _⟩ => scM0_0 | .s ⟨1, _⟩ => scM0_1 | .s ⟨2, _⟩ => scM0_2 | .s ⟨3, _⟩ => scM0_3
  | .r ⟨0, _⟩ => scM0_4 | .r ⟨1, _⟩ => scM0_5 | .r ⟨2, _⟩ => scM0_6 | .r ⟨3, _⟩ => scM0_7
  | .x => scM0_8 | .m => scM0_9 | .a => scM0_10

theorem body_eq (t : Fin cfg0.N) :
    (bodyAt0 (F := F) t) = (body (F := F) (M := mem0 t) (grid0.coords t) (Memref.isWhole_whole _) (hs0_4 t)).prog := by
  sl_kernel_rfl

end Cert.Fox

end
-- ==== Proof.Run.lean ====
/- The attention kernel's launch, over the extended reals: every point of the grid leaves its block of the attention, so the
   output array is read block by block. -/
module

public import proofs.«01_k».proof.Proof.Pass
public import proofs.«01_k».proof.Proof.BodyEq
public import Idealize.ShloMosaic.Lib.Pipeline.Value

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Contents of the buffers, one by one. -/
def mk (q k v : S4096x256.Idx → EReal) (cc : S8x4096.Idx → EReal) (o : S4096x256.Idx → EReal) (s0 s1 s2 s3 : S1024x512.Idx → EReal)
    (r0 r1 r2 r3 : S1024x128.Idx → EReal) (x : S2x4096x256.Idx → EReal) (mm : S1024x128.Idx → EReal) (a : S1024x256.Idx → EReal) : St Ideal
  | .q => q | .k => k | .v => v | .c => cc | .o => o
  | .s ⟨0, _⟩ => s0 | .s ⟨1, _⟩ => s1 | .s ⟨2, _⟩ => s2 | .s ⟨3, _⟩ => s3
  | .r ⟨0, _⟩ => r0 | .r ⟨1, _⟩ => r1 | .r ⟨2, _⟩ => r2 | .r ⟨3, _⟩ => r3
  | .x => x | .m => mm | .a => a

/-- The inputs of a point, the other buffers at zero. -/
def inputs (q k v : S4096x256.Idx → EReal) (cc : S8x4096.Idx → EReal) : St Ideal :=
  mk q k v cc (fun _ => 0) (fun _ => 0) (fun _ => 0) (fun _ => 0) (fun _ => 0) (fun _ => 0) (fun _ => 0) (fun _ => 0) (fun _ => 0) (fun _ => 0)
    (fun _ => 0) (fun _ => 0)

/-- The attention reads the inputs alone. -/
theorem attn_congr {i : grid0.Coords} {σ σ' : St Ideal} (hq : σ' .q = σ .q) (hk : σ' .k = σ .k) (hv : σ' .v = σ .v) (hc : σ' .c = σ .c) (hh x d : ℕ) :
    attn i σ' hh x d = attn i σ hh x d := by
  unfold attn row score qv kv vv cv
  rw [hq, hk, hv, hc]

/-- What point `t` leaves in the output's block. -/
def blockOut (c : Dev nD) (t : Fin cfg0.N) : S4096x256.Idx → EReal := fun j =>
  attn (grid0.coords t) (inputs (iblk m c 0 t) (iblk m c 1 t) (iblk m c 2 t) (iblk m c 3 t)) ((j 1).val / 128) (j 0).val ((j 1).val % 128)

/-- The launch's data: the arrays as they are found; each input's buffer left at its block, the output's at the attention. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockOut m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The buffers of a point, one by one. -/
theorem ownL_eq (c : Dev nD) (t : Fin cfg0.N) (σ : St Ideal) : ownL c (mem0 t) σ Bf.all
    = iprop(owns (c : Thread nD τ) (ms0_0 t) fullShare (σ .q) ∗ owns (c : Thread nD τ) (ms0_1 t) fullShare (σ .k)
      ∗ owns (c : Thread nD τ) (ms0_2 t) fullShare (σ .v) ∗ owns (c : Thread nD τ) (ms0_3 t) fullShare (σ .c)
      ∗ owns (c : Thread nD τ) (ms0_4 t) fullShare (σ .o)
      ∗ owns (c : Thread nD τ) scM0_0 fullShare (σ (.s 0)) ∗ owns (c : Thread nD τ) scM0_1 fullShare (σ (.s 1))
      ∗ owns (c : Thread nD τ) scM0_2 fullShare (σ (.s 2)) ∗ owns (c : Thread nD τ) scM0_3 fullShare (σ (.s 3))
      ∗ owns (c : Thread nD τ) scM0_4 fullShare (σ (.r 0)) ∗ owns (c : Thread nD τ) scM0_5 fullShare (σ (.r 1))
      ∗ owns (c : Thread nD τ) scM0_6 fullShare (σ (.r 2)) ∗ owns (c : Thread nD τ) scM0_7 fullShare (σ (.r 3))
      ∗ owns (c : Thread nD τ) scM0_8 fullShare (σ .x) ∗ owns (c : Thread nD τ) scM0_9 fullShare (σ .m)
      ∗ owns (c : Thread nD τ) scM0_10 fullShare (σ .a) ∗ emp) := rfl

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA0_eq, body_eq]
  iintro ⟨⟨⟨⟨%s0, HS0⟩, ⟨%s1, HS1⟩, ⟨%s2, HS2⟩, ⟨%s3, HS3⟩, ⟨%r0, HS4⟩, ⟨%r1, HS5⟩, ⟨%r2, HS6⟩, ⟨%r3, HS7⟩, ⟨%x, HS8⟩, ⟨%mm, HS9⟩, ⟨%a, HS10⟩⟩, Hg⟩, Ho, ⟨%d0, H0⟩, ⟨%d1, H1⟩, ⟨%d2, H2⟩, ⟨%d3, H3⟩, ⟨%d4, H4⟩⟩
  have hev := body_step (M := mem0 t) (grid0.coords t) (Memref.isWhole_whole _) (hs0_4 t)
    (mk (iblk m c 0 t) (iblk m c 1 t) (iblk m c 2 t) (iblk m c 3 t) ((dats m 0 c).before 4 t d4) s0 s1 s2 s3 r0 r1 r2 r3 x mm a)
  obtain ⟨σ', he, hq, hk, hv, hc, ho⟩ := hev
  have hob : σ' .o = blockOut m c t := by
    refine g2_ext (a := 4096) (b := 256) fun x hx y hy => (ho x hx y hy).trans ?_
    rw [g2_of (blockOut m c t) hx hy]
    exact attn_congr rfl rfl rfl rfl _ _ _
  have hs := fun Q => Code.sound c Set.univ Q (body (F := Ideal) (M := mem0 t) (grid0.coords t) (Memref.isWhole_whole _) (hs0_4 t))
    (mk (iblk m c 0 t) (iblk m c 1 t) (iblk m c 2 t) (iblk m c 3 t) ((dats m 0 c).before 4 t d4) s0 s1 s2 s3 r0 r1 r2 r3 x mm a)
  simp only [he, ownL_eq, hq, hk, hv, hc, hob] at hs
  iapply (hs _)
  isplitl [H0 H1 H2 H3 H4 HS0 HS1 HS2 HS3 HS4 HS5 HS6 HS7 HS8 HS9 HS10]
  · isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iempintro
  iintro ⟨H0, H1, H2, H3, H4, HS0, HS1, HS2, HS3, HS4, HS5, HS6, HS7, HS8, HS9, HS10, He⟩
  isplitl [HS0 HS1 HS2 HS3 HS4 HS5 HS6 HS7 HS8 HS9 HS10 Hg]
  · isplitl [HS0 HS1 HS2 HS3 HS4 HS5 HS6 HS7 HS8 HS9 HS10]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      iexists _; iexact HS10
    iexact Hg
  isplitl [Ho]; · iexact Ho
  isplitl [H0]; · iexact H0
  isplitl [H1]; · iexact H1
  isplitl [H2]; · iexact H2
  isplitl [H3]; · iexact H3
  iexact H4

theorem body_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- The launch. -/
theorem run_main : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run, the output array named and the arguments unchanged. -/
theorem run_blocks : θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 4,
      ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c)))⟩)
    (run_main m ρ)

end Cert.Fox

end
-- ==== Proof.Spec.lean ====
/- The attention as one function of its two arrays, at natural-number coordinates: what the kernel's launch leaves and what
   the reference computes are both compared with it. -/
module

public import proofs.«01_k».proof.Proof.Read
public import proofs.«01_k».proof.Proof.Online

@[expose] public section

noncomputable section

namespace Cert.Fox

open Idealize.ShloMosaic

/-- The queries, keys and values, and the log-forget sums. -/
abbrev Qkv : Type := (Sh 32768 3072).Idx → EReal
abbrev Lfs : Type := (Sh 8 32768).Idx → EReal

variable (A : Qkv) (C : Lfs) (b h x d y : ℕ)

/-- The query at position `x` of sequence `b`, head `h`, lane `d`; the key; the value; the position's log-forget sum. -/
def qa : EReal := g2 A (4096 * b + x) (128 * h + d)
def ka : EReal := g2 A (4096 * b + x) (1024 + 128 * h + d)
def va : EReal := g2 A (4096 * b + x) (2048 + 128 * h + d)
def ca : EReal := g2 C h (4096 * b + x)

/-- The score of query `x` against key `y`, up to what depends on the query alone; -/
def sc : EReal := (∑ d ∈ Finset.range 128, qa A b h x d * ka A b h y d) - ca C b h y

/-- a query's scores, the later keys masked; -/
def sRow : ℕ → EReal := masked (sc A C b h x) x

/-- the values of the earlier keys, weighed and summed, over the sum of the weights. -/
def mean : EReal :=
  Ideal.div (wsum (sRow A C b h x) (fun y => va A b h y d) 4096) (wsum (sRow A C b h x) (fun _ => 1) 4096)

/-- The whole result. -/
def fox : (Sh 32768 1024).Idx → EReal := fun j =>
  mean A C ((j 0).val / 4096) ((j 1).val / 128) ((j 0).val % 4096) ((j 1).val % 128)

end Cert.Fox

end
-- ==== Proof.Array.lean ====
/- The attention kernel's output array: its blocks cover it, so it is the attention of the two arguments. -/
module

public import proofs.«01_k».proof.Proof.Run
public import proofs.«01_k».proof.Proof.Spec
public import Idealize.ShloMosaic.Lib.Pipeline.ValueKit

@[expose] public section

set_option maxRecDepth 16384

noncomputable section

namespace Cert.Fox

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx (ix2)

variable (m : (ℓ : Loc nD τ sig) → Buf (Elt Ideal) ℓ)

/-- The two arguments. -/
def argA (c : Dev nD) : Qkv := m ((c : Thread nD τ).loc main_arg0)
def argC (c : Dev nD) : Lfs := m ((c : Thread nD τ).loc main_arg1)

theorem index0 : ∀ t : Fin cfg0.N, win0_0.index t = ![(grid0.coords t 0).val, (grid0.coords t 1).val] :=
  (by decide +kernel : ∀ t : Fin grid0.N, win0_0.index t = ![(grid0.coords t 0).val, (grid0.coords t 1).val])
theorem index1 : ∀ t : Fin cfg0.N, win0_1.index t = ![(grid0.coords t 0).val, 4 + (grid0.coords t 1).val] :=
  (by decide +kernel : ∀ t : Fin grid0.N, win0_1.index t = ![(grid0.coords t 0).val, 4 + (grid0.coords t 1).val])
theorem index2 : ∀ t : Fin cfg0.N, win0_2.index t = ![(grid0.coords t 0).val, 8 + (grid0.coords t 1).val] :=
  (by decide +kernel : ∀ t : Fin grid0.N, win0_2.index t = ![(grid0.coords t 0).val, 8 + (grid0.coords t 1).val])
theorem index3 : ∀ t : Fin cfg0.N, win0_3.index t = ![0, (grid0.coords t 0).val] :=
  (by decide +kernel : ∀ t : Fin grid0.N, win0_3.index t = ![0, (grid0.coords t 0).val])
theorem index4 : ∀ t : Fin cfg0.N, win0_4.index t = ![(grid0.coords t 0).val, (grid0.coords t 1).val] :=
  (by decide +kernel : ∀ t : Fin grid0.N, win0_4.index t = ![(grid0.coords t 0).val, (grid0.coords t 1).val])

theorem coords_lt (t : Fin cfg0.N) : (grid0.coords t 0).val < 8 ∧ (grid0.coords t 1).val < 4 :=
  ⟨(grid0.coords t 0).isLt, (grid0.coords t 1).isLt⟩

variable {m} {c : Dev nD} {t : Fin cfg0.N} {x y : ℕ}

/-- The blocks of the four inputs, as the arguments. -/
theorem iblk0 (hx : x < 4096) (hy : y < 256) : g2 (a := 4096) (b := 256) (iblk m c 0 t) x y
    = g2 (argA m c) (4096 * (grid0.coords t 0).val + x) (256 * (grid0.coords t 1).val + y) := by
  obtain ⟨h0, h1⟩ := coords_lt t
  rw [g2_of _ hx hy, g2_of (argA m c) (by omega) (by omega)]
  blk_simp [iblk]
  refine congrArg (argA m c) ?_
  blk_ext [index0]

theorem iblk1 (hx : x < 4096) (hy : y < 256) : g2 (a := 4096) (b := 256) (iblk m c 1 t) x y
    = g2 (argA m c) (4096 * (grid0.coords t 0).val + x) (1024 + 256 * (grid0.coords t 1).val + y) := by
  obtain ⟨h0, h1⟩ := coords_lt t
  rw [g2_of _ hx hy, g2_of (argA m c) (by omega) (by omega)]
  blk_simp [iblk]
  refine congrArg (argA m c) ?_
  blk_ext [index1]

theorem iblk2 (hx : x < 4096) (hy : y < 256) : g2 (a := 4096) (b := 256) (iblk m c 2 t) x y
    = g2 (argA m c) (4096 * (grid0.coords t 0).val + x) (2048 + 256 * (grid0.coords t 1).val + y) := by
  obtain ⟨h0, h1⟩ := coords_lt t
  rw [g2_of _ hx hy, g2_of (argA m c) (by omega) (by omega)]
  blk_simp [iblk]
  refine congrArg (argA m c) ?_
  blk_ext [index2]

theorem iblk3 (hx : x < 8) (hy : y < 4096) : g2 (a := 8) (b := 4096) (iblk m c 3 t) x y
    = g2 (argC m c) x (4096 * (grid0.coords t 0).val + y) := by
  obtain ⟨h0, h1⟩ := coords_lt t
  rw [g2_of _ hx hy, g2_of (argC m c) (by omega) (by omega)]
  blk_simp [iblk]
  refine congrArg (argC m c) ?_
  blk_ext [index3]

/-- One head's attention at a point is the attention of the sequence and head the point's block lies at. -/
theorem attn_eq {hh d : ℕ} (hx : x < 4096) (hhh : hh < 2) (hd : d < 128) :
    attn (grid0.coords t) (inputs (iblk m c 0 t) (iblk m c 1 t) (iblk m c 2 t) (iblk m c 3 t)) hh x d
      = mean (argA m c) (argC m c) (grid0.coords t 0).val (2 * (grid0.coords t 1).val + hh) x d := by
  obtain ⟨h0, h1⟩ := coords_lt t
  have hrow : ∀ y < 4096, row (grid0.coords t) (inputs (iblk m c 0 t) (iblk m c 1 t) (iblk m c 2 t) (iblk m c 3 t)) hh x y
      = sRow (argA m c) (argC m c) (grid0.coords t 0).val (2 * (grid0.coords t 1).val + hh) x y := by
    intro y hy
    unfold row sRow masked
    refine if_congr Iff.rfl ?_ rfl
    unfold score sc qv kv cv
    refine congrArg₂ (· - ·) (Finset.sum_congr rfl fun e he => ?_) ?_
    · have he' := Finset.mem_range.mp he
      unfold qa ka
      refine congrArg₂ (· * ·) ((iblk0 (m := m) (c := c) (t := t) hx (by omega)).trans ?_) ((iblk1 (m := m) (c := c) (t := t) hy (by omega)).trans ?_)
      · congr 1; omega
      · congr 1; omega
    · unfold ca
      exact iblk3 (m := m) (c := c) (t := t) (by omega) hy
  have hval : ∀ y < 4096, vv (inputs (iblk m c 0 t) (iblk m c 1 t) (iblk m c 2 t) (iblk m c 3 t)) y (128 * hh + d)
      = va (argA m c) (grid0.coords t 0).val (2 * (grid0.coords t 1).val + hh) y d := by
    intro y hy
    unfold vv va
    refine (iblk2 (m := m) (c := c) (t := t) hy (by omega)).trans ?_
    congr 1; omega
  unfold attn mean
  rw [wsum_congr hrow hval, wsum_congr hrow fun _ _ => rfl]

/-- The output array is the attention of the arguments. -/
theorem out_eq (c : Dev nD) : (dats m 0 c).arrAt 4 cfg0.N = fox (argA m c) (argC m c) := by
  refine (dats m 0 c).arrAt_eq_of_covers 4 _ (by decide +kernel) fun t hf y => ?_
  obtain ⟨h0, h1⟩ := coords_lt t
  have hy0 : (y 0).val < 4096 := (y 0).isLt
  have hy1 : (y 1).val < 256 := (y 1).isLt
  blk_simp
  rw [after_4]
  unfold blockOut fox
  refine (attn_eq hy0 (by omega) (by omega)).trans ?_
  blk_simp [index4]
  congr 1 <;> omega

end Cert.Fox

end
-- ==== Proof.Ref.lean ====
/- The reference's result, read at an index: the textbook attention over natural-number coordinates. -/
module

public import proofs.«01_k».proof.Proof.Spec
public import proofs.«01_k».proof.Proof.Gen.ReferenceIdeal.Run
public import Idealize.ShloMosaic.Lib.IdealHost
public import Idealize.ShloMosaic.Lib.KernelVsHost
public import Idealize.ShloMosaic.Lib.Pointwise.Reduce
public import Idealize.ShloMosaic.Lib.Pipeline.Value

@[expose] public section

set_option maxRecDepth 8192

noncomputable section

namespace Cert.Fox

open Cert.ReferenceIdeal Cert.ReferenceIdeal.Gen
open Idealize.ShloMosaic hiding ix0 ix1 ix2 ix3 ix4
open Idealize.ShloMosaic.ValueIdx

/-- The dots' dimension numbers. -/
abbrev dQK := dot_S8x8x4096x128_S8x8x4096x128_S8x8x4096x4096_3_3_2_2_01_01
abbrev dPV := dot_S8x8x4096x4096_S8x8x4096x128_S8x8x4096x128_3_2_2_3_01_01

/-- A third of the projection, by sequence, head, position and lane. -/
def partT (o : ℕ) (hs : S8x4096x3072.Slices ![0, 0, o] S8x4096x1024) (A : FVec Ideal S32768x3072 .bf16) : FVec Ideal S8x8x4096x128 .f32 :=
  transpose S8x8x4096x128 [0, 2, 1, 3] (shapeCast _ (extractStridedSlice S8x4096x1024 ![0, 0, o] (shapeCast _
    (extf .f32 A bitsLt_bf16_f32) shapeCasts_S32768x3072_S8x4096x3072) hs) shapeCasts_S8x4096x1024_S8x4096x8x128)
    transposes_S8x4096x8x128_S8x8x4096x128_0_2_1_3

/-- The log-forget sums, by sequence, head and position. -/
def lfT (C : FVec Ideal S8x32768 .f32) : FVec Ideal S8x8x4096 .f32 :=
  transpose S8x8x4096 [1, 0, 2] (shapeCast _ C shapeCasts_S8x32768_S8x8x4096) transposes_S8x8x4096_S8x8x4096_1_0_2

/-- The masked scores. -/
def scT (A : FVec Ideal S32768x3072 .bf16) (C : FVec Ideal S8x32768 .f32) : FVec Ideal S8x8x4096x4096 .f32 :=
  select (broadcastInDim S8x8x4096x4096 ![2, 3] bcast_S4096x4096_S8x8x4096x4096_2_3 (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
    (mulf (broadcastInDim S8x8x4096x4096 ![] bcast_S_S8x8x4096x4096 (Host.log (constant S_ .f32 0x40000000#32)))
      (addf (Host.dotGeneral dQK none (partT 0 slices_S8x4096x3072_S8x4096x1024_0_0_0 A) (partT 1024 slices_S8x4096x3072_S8x4096x1024_0_0_1024 A))
        (subf (broadcastInDim S8x8x4096x4096 ![0, 1, 2, 3] bcast_S8x8x4096x1_S8x8x4096x4096_0_1_2_3
            (broadcastInDim S8x8x4096x1 ![0, 1, 2] bcast_S8x8x4096_S8x8x4096x1_0_1_2 (lfT C)))
          (broadcastInDim S8x8x4096x4096 ![0, 1, 2, 3] bcast_S8x8x1x4096_S8x8x4096x4096_0_1_2_3
            (broadcastInDim S8x8x1x4096 ![0, 1, 3] bcast_S8x8x4096_S8x8x1x4096_0_1_3 (lfT C))))))
    (broadcastInDim S8x8x4096x4096 ![] bcast_S_S8x8x4096x4096 (id (constant S_ .f32 0xFF800000#32)))

/-- A row's statistic, beside every key. -/
def alongT (X : FVec Ideal S8x8x4096 .f32) : FVec Ideal S8x8x4096x4096 .f32 :=
  broadcastInDim S8x8x4096x4096 ![0, 1, 2, 3] bcast_S8x8x4096x1_S8x8x4096x4096_0_1_2_3
    (broadcastInDim S8x8x4096x1 ![0, 1, 2] bcast_S8x8x4096_S8x8x4096x1_0_1_2 X)

/-- The largest score of each row. -/
def maxT (W : FVec Ideal S8x8x4096x4096 .f32) : FVec Ideal S8x8x4096 .f32 :=
  maximumf (broadcastInDim S8x8x4096 ![] bcast_S_S8x8x4096 (constant S_ .f32 0xFF800000#32))
    (Host.reduce FloatOps.maximumf W (constant S_ .f32 0xFF800000#32) reducesTo_S8x8x4096x4096_S8x8x4096_d3 h_S_)

/-- The softmax's terms. -/
def expT (W : FVec Ideal S8x8x4096x4096 .f32) : FVec Ideal S8x8x4096x4096 .f32 := Host.exp (subf W (alongT (maxT W)))

/-- The attention's result, by sequence, head, position and lane. -/
def outT (W : FVec Ideal S8x8x4096x4096 .f32) (A : FVec Ideal S32768x3072 .bf16) : FVec Ideal S8x8x4096x128 .f32 :=
  Host.dotGeneral dPV none (Host.divf (expT W) (alongT (Host.reduceAdd (expT W) (constant S_ .f32 0x00000000#32)
    reducesTo_S8x8x4096x4096_S8x8x4096_d3 h_S_))) (partT 2048 slices_S8x4096x3072_S8x4096x1024_0_0_2048 A)

/-- The reference's result, of its two arguments. -/
def refT (A : FVec Ideal S32768x3072 .bf16) (C : FVec Ideal S8x32768 .f32) : FVec Ideal S32768x1024 .bf16 :=
  truncf .bf16 (shapeCast _ (transpose S8x4096x8x128 [0, 2, 1, 3] (outT (scT A C) A) transposes_S8x8x4096x128_S8x4096x8x128_0_2_1_3)
    shapeCasts_S8x4096x8x128_S32768x1024) bitsLt_bf16_f32

theorem res_eq (m : (ℓ : Loc nD τ sig) → Buf (Elt Ideal) ℓ) (c : Dev nD) :
    Value.res_out0 m c = refT (m ((c.tc : Thread nD τ).loc main_arg0)) (m ((c.tc : Thread nD τ).loc main_arg1)) := rfl

/-! ## Its parts, at an index -/

theorem partT_apply (o : ℕ) (ho : o + 1024 ≤ 3072) (hs) (A : Qkv) (b h : Fin 8) (x : Fin 4096) (d : Fin 128) :
    partT o hs A (ix4 b h x d) = g2 A (4096 * b.val + x.val) (o + 128 * h.val + d.val) := by
  unfold partT
  rw [transpose_apply _ _ _ _ (ix4 b x h d) (by intro a; fin_cases a <;> rfl)]
  rw [shapeCast_apply _ _ (ix4 b x h d) (ix3 (n0 := 8) (n1 := 4096) (n2 := 1024) b x ⟨128 * h.val + d.val, by omega⟩) (by
    rw [Shape.rowMajor_val_three, Shape.rowMajor_val_four]
    show (b.val * 4096 + x.val) * 1024 + (128 * h.val + d.val) = ((b.val * 4096 + x.val) * 8 + h.val) * 128 + d.val
    omega)]
  rw [extractStridedSlice_apply _ _ _ _ (ix3 (n0 := 8) (n1 := 4096) (n2 := 3072) b x ⟨o + 128 * h.val + d.val, by omega⟩) (by
    intro a; fin_cases a
    · show b.val = 0 + b.val; omega
    · show x.val = 0 + x.val; omega
    · show o + 128 * h.val + d.val = o + (128 * h.val + d.val); omega)]
  rw [shapeCast_apply _ _ _ (ix2 (n0 := 32768) (n1 := 3072) ⟨4096 * b.val + x.val, by omega⟩ ⟨o + 128 * h.val + d.val, by omega⟩) (by
    rw [Shape.rowMajor_val_three, Shape.rowMajor_val_two]
    show (4096 * b.val + x.val) * 3072 + (o + 128 * h.val + d.val) = (b.val * 4096 + x.val) * 3072 + (o + 128 * h.val + d.val)
    omega)]
  exact (g2_of A _ _).symm

theorem lfT_apply (C : Lfs) (b h : Fin 8) (x : Fin 4096) : lfT C (ix3 b h x) = ca C b.val h.val x.val := by
  unfold lfT ca
  rw [transpose_apply _ _ _ _ (ix3 h b x) (by intro a; fin_cases a <;> rfl)]
  rw [shapeCast_apply _ _ _ (ix2 (n0 := 8) (n1 := 32768) h ⟨4096 * b.val + x.val, by omega⟩) (by
    rw [Shape.rowMajor_val_three, Shape.rowMajor_val_two]
    show h.val * 32768 + (4096 * b.val + x.val) = (h.val * 8 + b.val) * 4096 + x.val
    omega)]
  exact (g2_of C h.isLt _).symm

theorem alongT_apply (X : (⟨3, ![8, 8, 4096]⟩ : Shape).Idx → EReal) (b h : Fin 8) (x y : Fin 4096) :
    alongT X (ix4 b h x y) = X (ix3 b h x) := by
  unfold alongT
  rw [broadcastInDim_apply _ _ _ _ (ix4 (n3 := 1) b h x 0) (by intro a; fin_cases a <;> rfl),
    broadcastInDim_apply _ _ _ _ (ix3 b h x) (by intro a; fin_cases a <;> rfl)]

theorem acrossT_apply (X : (⟨3, ![8, 8, 4096]⟩ : Shape).Idx → EReal) (b h : Fin 8) (x y : Fin 4096) :
    broadcastInDim S8x8x4096x4096 ![0, 1, 2, 3] bcast_S8x8x1x4096_S8x8x4096x4096_0_1_2_3
      (broadcastInDim S8x8x1x4096 ![0, 1, 3] bcast_S8x8x4096_S8x8x1x4096_0_1_3 X) (ix4 b h x y) = X (ix3 b h y) := by
  rw [broadcastInDim_apply _ _ _ _ (ix4 (n2 := 1) b h 0 y) (by intro a; fin_cases a <;> rfl),
    broadcastInDim_apply _ _ _ _ (ix3 b h y) (by intro a; fin_cases a <;> rfl)]

theorem dQK_apply (Q K : FVec Ideal S8x8x4096x128 .f32) (b h : Fin 8) (x y : Fin 4096) :
    Host.dotGeneral dQK none Q K (ix4 b h x y) = ∑ d : Fin 128, Q (ix4 b h x d) * K (ix4 b h y d) := by
  simp only [Host.dotGeneral]
  rw [Ideal.dotGeneral_apply, ← Equiv.sum_comp (contrEquiv1 dQK 128 rfl rfl).symm]
  refine Finset.sum_congr rfl fun d _ => ?_
  have hk := contrEquiv1_symm_val dQK 128 rfl rfl d
  have el : dQK.lhsIdx (ix4 b h x y) ((contrEquiv1 dQK 128 rfl rfl).symm d) = ix4 b h x d := by
    funext a; apply Fin.ext
    match a with
    | ⟨0, _⟩ => rfl
    | ⟨1, _⟩ => rfl
    | ⟨2, _⟩ => rfl
    | ⟨3, _⟩ => exact hk
  have er : dQK.rhsIdx (ix4 b h x y) ((contrEquiv1 dQK 128 rfl rfl).symm d) = ix4 b h y d := by
    funext a; apply Fin.ext
    match a with
    | ⟨0, _⟩ => rfl
    | ⟨1, _⟩ => rfl
    | ⟨2, _⟩ => rfl
    | ⟨3, _⟩ => exact hk
  rw [el, er]

theorem dPV_apply (P : FVec Ideal S8x8x4096x4096 .f32) (V : FVec Ideal S8x8x4096x128 .f32) (b h : Fin 8) (x : Fin 4096) (d : Fin 128) :
    Host.dotGeneral dPV none P V (ix4 b h x d) = ∑ y : Fin 4096, P (ix4 b h x y) * V (ix4 b h y d) := by
  simp only [Host.dotGeneral]
  rw [Ideal.dotGeneral_apply, ← Equiv.sum_comp (contrEquiv1 dPV 4096 rfl rfl).symm]
  refine Finset.sum_congr rfl fun y _ => ?_
  have hk := contrEquiv1_symm_val dPV 4096 rfl rfl y
  have el : dPV.lhsIdx (ix4 b h x d) ((contrEquiv1 dPV 4096 rfl rfl).symm y) = ix4 b h x y := by
    funext a; apply Fin.ext
    match a with
    | ⟨0, _⟩ => rfl
    | ⟨1, _⟩ => rfl
    | ⟨2, _⟩ => rfl
    | ⟨3, _⟩ => exact hk
  have er : dPV.rhsIdx (ix4 b h x d) ((contrEquiv1 dPV 4096 rfl rfl).symm y) = ix4 b h y d := by
    funext a; apply Fin.ext
    match a with
    | ⟨0, _⟩ => rfl
    | ⟨1, _⟩ => rfl
    | ⟨2, _⟩ => exact hk
    | ⟨3, _⟩ => rfl
  rw [el, er]

theorem sle_ofNat {a b : ℕ} (ha : a < 4096) (hb : b < 4096) :
    IntOp.cmpi .sle (BitVec.ofNat 32 a) (BitVec.ofNat 32 b) = 1#1 ↔ a ≤ b := by
  have e : ∀ v < 4096, (BitVec.ofNat 32 v).toInt = v := fun v hv => by
    have hn : (BitVec.ofNat 32 v).toNat = v := by rw [BitVec.toNat_ofNat]; omega
    rw [BitVec.toInt_eq_toNat_of_lt (by rw [hn]; omega), hn]
  show BitVec.ofBool ((BitVec.ofNat 32 a).sle (BitVec.ofNat 32 b)) = 1#1 ↔ _
  rw [BitVec.sle_eq_decide, e a ha, e b hb]
  by_cases h : a ≤ b
  · simp [h]
  · simp [h]

theorem log_two : Host.log (F := Ideal) (constant S_ .f32 0x40000000#32) ix0 = ((Real.log 2 : ℝ) : EReal) := by
  show Ideal.log (Ideal.ofBits .f32 0x40000000#32) = _
  rw [show Ideal.ofBits .f32 0x40000000#32 = ((2 : ℝ) : EReal) by
    simp [Ideal.ofBits, Ideal.ieee]
    rw [← EReal.coe_mul]; norm_num, Ideal.log_coe]
  norm_num

/-- The reference's score of query `x` against key `y`, the later keys masked. -/
def rRow (A : Qkv) (C : Lfs) (b h x : ℕ) : ℕ → EReal :=
  masked (fun y => ((Real.log 2 : ℝ) : EReal)
    * ((∑ d ∈ Finset.range 128, qa A b h x d * ka A b h y d) + (ca C b h x - ca C b h y))) x

theorem scT_apply (A : Qkv) (C : Lfs) (b h : Fin 8) (x y : Fin 4096) : scT A C (ix4 b h x y) = rRow A C b.val h.val x.val y.val := by
  unfold scT rRow masked
  rw [ValueIdx.select_apply]
  unfold Scalar.select
  refine if_congr ?_ ?_ ?_
  · rw [broadcastInDim_apply _ _ _ _ (ix2 x y) (by intro a; fin_cases a <;> rfl)]
    show IntOp.cmpi .sle _ _ = 1#1 ↔ _
    rw [broadcastInDim_apply _ _ _ _ (ix2 (n0 := 1) 0 y) (by intro a; fin_cases a <;> rfl),
      broadcastInDim_apply _ _ _ _ (ix1 y) (by intro a; fin_cases a <;> rfl),
      broadcastInDim_apply _ _ _ _ (ix2 (n1 := 1) x 0) (by intro a; fin_cases a <;> rfl),
      broadcastInDim_apply _ _ _ _ (ix1 x) (by intro a; fin_cases a <;> rfl)]
    exact sle_ofNat y.isLt x.isLt
  · beta_reduce
    show broadcastInDim S8x8x4096x4096 _ _ _ _ * (Host.dotGeneral dQK none _ _ (ix4 b h x y) + (alongT (lfT C) (ix4 b h x y) - _)) = _
    rw [broadcastInDim_scalar_apply, log_two, dQK_apply, alongT_apply, acrossT_apply, lfT_apply, lfT_apply,
      ← Fin.sum_univ_eq_sum_range (fun d => qa A b.val h.val x.val d * ka A b.val h.val y.val d)]
    refine congrArg (fun z => ((Real.log 2 : ℝ) : EReal) * (z + _)) (Finset.sum_congr rfl fun d _ => ?_)
    rw [partT_apply 0 (by omega), partT_apply 1024 (by omega), Nat.zero_add]
    rfl
  · rw [broadcastInDim_scalar_apply]
    exact ofBits_neg_inf

theorem max_apply {s : Shape} (X Y : FVec Ideal s .f32) (i : s.Idx) : maximumf X Y i = max (X i) (Y i) := rfl

/-- A rounding is the identity on the extended reals. -/
theorem truncf_apply {s : Shape} (X : FVec Ideal s .f32) (h) (i : s.Idx) : (truncf .bf16 X h : FVec Ideal s .bf16) i = X i := rfl

theorem red_d3 : S8x8x4096x4096.Reduces [3] S8x8x4096 := by decide

theorem maxT_apply (W : FVec Ideal S8x8x4096x4096 .f32) (b h : Fin 8) (x : Fin 4096) {R : ℕ → EReal}
    (hR : ∀ y : Fin 4096, W (ix4 b h x y) = R y.val) : maxT W (ix3 b h x) = top R 4096 := by
  unfold maxT
  rw [max_apply, broadcastInDim_scalar_apply]
  refine (congrArg (max _) ((congrFun (hostReduce_maximumf_eq_multiReduction W 0xFF800000#32 _ _ red_d3 (.inl rfl) rfl) _).trans
    (Ideal.multiReduction_maximumf_single W _ red_d3 _ _ _))).trans ?_
  show max (Ideal.ofBits .f32 0xFF800000#32) ((Finset.univ : Finset (Fin 4096)).fold max (Ideal.ofBits .f32 0xFF800000#32) (W ∘ red_d3.lift (ix3 b h x))) = _
  rw [ofBits_neg_inf, max_bot_left]
  show (Finset.univ : Finset (Fin 4096)).sup (W ∘ red_d3.lift (ix3 b h x)) = _
  have e : (Finset.univ : Finset (Fin 4096)).sup (W ∘ red_d3.lift (ix3 b h x)) = (Finset.univ : Finset (Fin 4096)).sup fun y => R y.val := by
    refine Finset.sup_congr rfl fun y _ => (congrArg W ?_).trans (hR y)
    funext a; apply Fin.ext
    fin_cases a <;> rfl
  rw [e]
  unfold top
  apply le_antisymm
  · exact Finset.sup_le fun y _ => Finset.le_sup (f := R) (Finset.mem_range.mpr y.isLt)
  · exact Finset.sup_le fun y hy => Finset.le_sup (f := fun y : Fin 4096 => R y.val) (Finset.mem_univ ⟨y, Finset.mem_range.mp hy⟩)

theorem expT_apply (W : FVec Ideal S8x8x4096x4096 .f32) (b h : Fin 8) (x y : Fin 4096) {R : ℕ → EReal}
    (hR : ∀ y : Fin 4096, W (ix4 b h x y) = R y.val) : expT W (ix4 b h x y) = Ideal.exp (R y.val - top R 4096) := by
  show Ideal.exp (W (ix4 b h x y) - alongT (maxT W) (ix4 b h x y)) = _
  rw [alongT_apply, maxT_apply W b h x hR, hR]

theorem sumT_apply (E : FVec Ideal S8x8x4096x4096 .f32) (b h : Fin 8) (x : Fin 4096) {R : ℕ → EReal}
    (hR : ∀ y : Fin 4096, E (ix4 b h x y) = R y.val) :
    Host.reduceAdd E (constant S_ .f32 0x00000000#32) reducesTo_S8x8x4096x4096_S8x8x4096_d3 h_S_ (ix3 b h x) = ∑ y ∈ Finset.range 4096, R y := by
  rw [ValueIdx.hostReduceAdd_apply, Ideal.hostReduceAdd_single _ red_d3,
    show constant (F := Ideal) S_ .f32 0x00000000#32 (Shape.Idx.first h_S_) = 0 from Ideal.ofBits_zero_f32, zero_add,
    ← Fin.sum_univ_eq_sum_range]
  refine Finset.sum_congr rfl fun y _ => (congrArg E ?_).trans (hR y)
  funext a; apply Fin.ext
  fin_cases a <;> rfl

/-- The textbook's mean: the softmax of a row's scores, times the values. -/
def rMean (R w : ℕ → EReal) : EReal :=
  ∑ y ∈ Finset.range 4096, Ideal.div (Ideal.exp (R y - top R 4096)) (∑ z ∈ Finset.range 4096, Ideal.exp (R z - top R 4096)) * w y

theorem outT_apply (A : Qkv) (C : Lfs) (b h : Fin 8) (x : Fin 4096) (d : Fin 128) :
    outT (scT A C) A (ix4 b h x d) = rMean (rRow A C b.val h.val x.val) (fun y => va A b.val h.val y d.val) := by
  have hR := scT_apply A C b h x
  unfold outT rMean
  rw [dPV_apply, ← Fin.sum_univ_eq_sum_range (fun y => Ideal.div (Ideal.exp (rRow A C b.val h.val x.val y - top (rRow A C b.val h.val x.val) 4096))
    (∑ z ∈ Finset.range 4096, Ideal.exp (rRow A C b.val h.val x.val z - top (rRow A C b.val h.val x.val) 4096)) * va A b.val h.val y d.val)]
  refine Finset.sum_congr rfl fun y _ => ?_
  rw [ValueIdx.hostDivf_apply, alongT_apply, expT_apply _ b h x y hR,
    sumT_apply _ b h x (R := fun z => Ideal.exp (rRow A C b.val h.val x.val z - top (rRow A C b.val h.val x.val) 4096)) (fun z => expT_apply _ b h x z hR),
    partT_apply 2048 (by omega)]
  rfl

/-- The reference's result at row `r` and column `e`. -/
theorem refT_apply (A : Qkv) (C : Lfs) (r : Fin 32768) (e : Fin 1024) :
    refT A C (ix2 r e) = rMean (rRow A C (r.val / 4096) (e.val / 128) (r.val % 4096)) (fun y => va A (r.val / 4096) (e.val / 128) y (e.val % 128)) := by
  unfold refT
  rw [truncf_apply, shapeCast_apply _ _ (ix2 r e) (ix4 (n0 := 8) (n1 := 4096) (n2 := 8) (n3 := 128) ⟨r.val / 4096, by omega⟩ ⟨r.val % 4096, by omega⟩
    ⟨e.val / 128, by omega⟩ ⟨e.val % 128, by omega⟩) (by
      rw [Shape.rowMajor_val_four, Shape.rowMajor_val_two]
      show ((r.val / 4096 * 4096 + r.val % 4096) * 8 + e.val / 128) * 128 + e.val % 128 = r.val * 1024 + e.val
      omega),
    transpose_apply _ _ _ _ (ix4 (n0 := 8) (n1 := 8) (n2 := 4096) (n3 := 128) ⟨r.val / 4096, by omega⟩ ⟨e.val / 128, by omega⟩
      ⟨r.val % 4096, by omega⟩ ⟨e.val % 128, by omega⟩) (by intro a; fin_cases a <;> rfl), outT_apply]

end Cert.Fox

end
-- ==== Proof.Compare.lean ====
/- The two spellings of a row's attention: the softmax to the base e of the scaled, shifted scores, normalised before it
   meets the values, is the softmax to the base 2, normalised after. -/
module

public import proofs.«01_k».proof.Proof.Ref

@[expose] public section

noncomputable section

namespace Cert.Fox

open Idealize.ShloMosaic

variable {s : ℕ → ℝ} {k : ℝ} {x N : ℕ}

/-- A row with its own key among the `N` has a real largest score, some key's. -/
theorem top_real (s : ℕ → ℝ) (h : x < N) :
    ∃ i, i ≤ x ∧ i < N ∧ top (masked (fun y => (s y : EReal)) x) N = (s i : EReal) := by
  obtain ⟨i, hi, e⟩ := Finset.exists_mem_eq_sup (Finset.range N) ⟨x, Finset.mem_range.mpr h⟩ (masked (fun y => (s y : EReal)) x)
  have hx : ((s x : ℝ) : EReal) ≤ top (masked (fun y => (s y : EReal)) x) N := by
    have := le_top (T := masked (fun y => (s y : EReal)) x) h
    rwa [show masked (fun y => (s y : EReal)) x x = (s x : EReal) from if_pos (Nat.le_refl x)] at this
  have e' : top (masked (fun y => (s y : EReal)) x) N = masked (fun y => (s y : EReal)) x i := e
  by_cases hix : i ≤ x
  · exact ⟨i, hix, Finset.mem_range.mp hi, e'.trans (if_pos hix)⟩
  · rw [e', show masked (fun y => (s y : EReal)) x i = ⊥ from if_neg hix] at hx
    exact absurd (le_bot_iff.mp hx) (EReal.coe_ne_bot _)

theorem log_two_pos : 0 < Real.log 2 := Real.log_pos (by norm_num)

/-- The scaled, shifted row's largest score. -/
theorem top_scaled {i : ℕ} (hix : i ≤ x) (hi : i < N) (e : top (masked (fun y => (s y : EReal)) x) N = (s i : EReal)) :
    top (masked (fun y => ((Real.log 2 * (s y + k) : ℝ) : EReal)) x) N = ((Real.log 2 * (s i + k) : ℝ) : EReal) := by
  apply le_antisymm
  · refine Finset.sup_le fun y hy => ?_
    by_cases hyx : y ≤ x
    · have h1 := le_top (T := masked (fun y => (s y : EReal)) x) (Finset.mem_range.mp hy)
      rw [e, show masked (fun y => (s y : EReal)) x y = (s y : EReal) from if_pos hyx, EReal.coe_le_coe_iff] at h1
      rw [show masked (fun y => ((Real.log 2 * (s y + k) : ℝ) : EReal)) x y = ((Real.log 2 * (s y + k) : ℝ) : EReal) from if_pos hyx,
        EReal.coe_le_coe_iff]
      exact mul_le_mul_of_nonneg_left (by linarith) log_two_pos.le
    · rw [show masked (fun y => ((Real.log 2 * (s y + k) : ℝ) : EReal)) x y = ⊥ from if_neg hyx]
      exact bot_le
  · have h1 := le_top (T := masked (fun y => ((Real.log 2 * (s y + k) : ℝ) : EReal)) x) hi
    rwa [show masked (fun y => ((Real.log 2 * (s y + k) : ℝ) : EReal)) x i = ((Real.log 2 * (s i + k) : ℝ) : EReal) from if_pos hix] at h1

/-- The two rows' terms agree: each is a real number, `2 ^ (s y - s i)`, or nothing where the key is masked. -/
def term (s : ℕ → ℝ) (x i y : ℕ) : ℝ := if y ≤ x then (2 : ℝ) ^ (s y - s i) else 0

theorem exp2_term (i y : ℕ) : Ideal.exp2 (masked (fun y => (s y : EReal)) x y - (s i : EReal)) = (term s x i y : EReal) := by
  unfold masked term
  split
  · rw [← EReal.coe_sub, Ideal.exp2_coe]; rfl
  · rw [EReal.bot_sub, Ideal.exp2_bot, EReal.coe_zero]

theorem exp_term (i y : ℕ) :
    Ideal.exp (masked (fun y => ((Real.log 2 * (s y + k) : ℝ) : EReal)) x y - ((Real.log 2 * (s i + k) : ℝ) : EReal)) = (term s x i y : EReal) := by
  unfold masked term
  split
  · rw [← EReal.coe_sub, Ideal.exp_coe, Real.rpow_def_of_pos (by norm_num : (0 : ℝ) < 2),
      show Real.log 2 * (s y + k) - Real.log 2 * (s i + k) = Real.log 2 * (s y - s i) by ring]
  · rw [EReal.bot_sub, Ideal.exp_bot, EReal.coe_zero]

theorem term_nonneg (i y : ℕ) : 0 ≤ term s x i y := by
  unfold term
  split
  · exact Real.rpow_nonneg (by norm_num) _
  · exact le_refl _

theorem sum_term_pos {i : ℕ} (hix : i ≤ x) (hi : i < N) : 0 < ∑ y ∈ Finset.range N, term s x i y := by
  refine Finset.sum_pos' (fun y _ => term_nonneg i y) ⟨i, Finset.mem_range.mpr hi, ?_⟩
  unfold term
  rw [if_pos hix, sub_self, Real.rpow_zero]
  exact one_pos

theorem coe_sum (f : ℕ → ℝ) (S : Finset ℕ) : ∑ y ∈ S, (f y : EReal) = ((∑ y ∈ S, f y : ℝ) : EReal) := by
  classical
  induction S using Finset.induction_on with
  | empty => simp
  | insert a S ha ih => rw [Finset.sum_insert ha, Finset.sum_insert ha, ih, EReal.coe_add]

/-- The textbook's mean is the kernel's quotient, when the scores are real: the values may be anything. -/
theorem rMean_eq (w : ℕ → EReal) (h : x < 4096) :
    rMean (masked (fun y => ((Real.log 2 * (s y + k) : ℝ) : EReal)) x) w
      = Ideal.div (wsum (masked (fun y => (s y : EReal)) x) w 4096) (wsum (masked (fun y => (s y : EReal)) x) (fun _ => 1) 4096) := by
  obtain ⟨i, hix, hi, e⟩ := top_real s h
  have hpos := sum_term_pos (s := s) hix hi
  unfold rMean wsum
  simp only [top_scaled hix hi e, e, exp2_term, exp_term, mul_one, coe_sum]
  have hne : ((∑ y ∈ Finset.range 4096, term s x i y : ℝ) : EReal) ≠ 0 := by exact_mod_cast hpos.ne'
  have hinv : ((∑ y ∈ Finset.range 4096, term s x i y : ℝ) : EReal)⁻¹ = (((∑ y ∈ Finset.range 4096, term s x i y)⁻¹ : ℝ) : EReal) :=
    (EReal.coe_inv _).symm
  unfold Ideal.div
  rw [if_neg hne, mul_comm, mul_sum_of (by rw [hinv]; exact_mod_cast (inv_pos.mpr hpos).le) (by rw [hinv]; exact EReal.coe_ne_top _)]
  refine Finset.sum_congr rfl fun y _ => ?_
  rw [if_neg hne, mul_comm (term s x i y : EReal), mul_assoc]

end Cert.Fox

end
-- ==== Proof.Finite.lean ====
/- The precondition, read at an element: the queries, the keys and the log-forget sums are real numbers. -/
module

public import proofs.«01_k».proof.Proof.Spec
public import proofs.«01_k».proof.Pre_finite_scores
public import Idealize.ShloMosaic.Lib.ReduceAll
public import Idealize.ShloMosaic.Lib.IdealHost
public import Idealize.ShloMosaic.Lib.Pipeline.Value

@[expose] public section

noncomputable section

namespace Cert.Fox

open Cert.Pre_finite_scores
open Idealize.ShloMosaic hiding ix0 ix1 ix2 ix3
open Idealize.ShloMosaic.ValueIdx

instance preFacts : Cert.Pre_finite_scores.Facts where
  slices_S32768x3072_S32768x2048_0_0 := by decide
  bitsLt_bf16_f32 := by decide
  bcast_S_S32768x2048 := by decide
  reducesTo_S32768x2048_S_d0_1 := by decide
  h_S_ := by decide
  bcast_S_S8x32768 := by decide
  reducesTo_S8x32768_S_d0_1 := by decide

theorem ofBits_inf : Ideal.ofBits .f32 0x7F800000#32 = ⊤ := by simp [Ideal.ofBits, Ideal.ieee]

/-- An element whose absolute value is below +∞ is a real number. -/
theorem real_of_abs {v : EReal} (h : FloatOps.cmpf (F := Ideal) (φ := .f32) .olt (FloatOps.hostAbsf (F := Ideal) (φ := .f32) v) (Ideal.ofBits .f32 0x7F800000#32) = 1#1) :
    ∃ r : ℝ, v = r := by
  rw [ofBits_inf] at h
  induction v with
  | coe r => exact ⟨r, rfl⟩
  | bot => exact absurd h (show ¬ Ideal.cmp .olt (max (⊥ : EReal) (-⊥)) ⊤ = 1#1 by simp [Ideal.cmp])
  | top => exact absurd h (show ¬ Ideal.cmp .olt (max (⊤ : EReal) (-⊤)) ⊤ = 1#1 by simp [Ideal.cmp])

instance : Subsingleton S_.Idx := ⟨fun a b => funext fun i => i.elim0⟩

variable {A : Qkv} {C : Lfs}

theorem pre_real (h : Cert.Pre_finite_scores.fn (F := Ideal) A C = fun _ => 1#1) :
    (∀ r < 32768, ∀ e < 2048, ∃ v : ℝ, g2 A r e = v) ∧ ∀ r < 8, ∀ e < 32768, ∃ v : ℝ, g2 C r e = v := by
  have h0 := congrFun h ix0
  obtain ⟨h1, h2⟩ := IntOp.andi_eq_one.1 h0
  refine ⟨fun r hr e he => ?_, fun r hr e he => ?_⟩
  · have := Host.reduce_andi_all _ _ _ _ _ h1 (ix2 (n0 := 32768) (n1 := 2048) ⟨r, hr⟩ ⟨e, he⟩)
    have hs : extractStridedSlice (α := EReal) S32768x2048 ![0, 0] A Facts.slices_S32768x3072_S32768x2048_0_0 (ix2 (n0 := 32768) (n1 := 2048) ⟨r, hr⟩ ⟨e, he⟩)
        = A (ix2 (n0 := 32768) (n1 := 3072) ⟨r, hr⟩ ⟨e, by omega⟩) := by
      refine extractStridedSlice_apply _ _ _ _ _ ?_
      intro a; fin_cases a
      · show r = 0 + r; omega
      · show e = 0 + e; omega
    obtain ⟨v, hv⟩ := real_of_abs this
    exact ⟨v, (g2_of A hr (by omega)).trans (hs.symm.trans hv)⟩
  · have := Host.reduce_andi_all _ _ _ _ _ h2 (ix2 (n0 := 8) (n1 := 32768) ⟨r, hr⟩ ⟨e, he⟩)
    obtain ⟨v, hv⟩ := real_of_abs this
    exact ⟨v, (g2_of C hr he).trans hv⟩

end Cert.Fox

end
-- ==== Proof.Agree.lean ====
/- The reference's result is the attention the kernel computes, when the queries, the keys and the log-forget sums are real
   numbers. -/
module

public import proofs.«01_k».proof.Proof.Compare
public import proofs.«01_k».proof.Proof.Finite

@[expose] public section

noncomputable section

namespace Cert.Fox

open Idealize.ShloMosaic hiding ix0 ix1 ix2 ix3
open Idealize.ShloMosaic.ValueIdx

variable {A : Qkv} {C : Lfs}

/-- A sum of products of real numbers is real. -/
theorem real_dot {q k : ℕ → EReal} {n : ℕ} (hq : ∀ d < n, ∃ v : ℝ, q d = v) (hk : ∀ d < n, ∃ v : ℝ, k d = v) :
    ∃ v : ℝ, ∑ d ∈ Finset.range n, q d * k d = v := by
  induction n with
  | zero => exact ⟨0, by simp⟩
  | succ n ih =>
    obtain ⟨v, hv⟩ := ih (fun d h => hq d (by omega)) (fun d h => hk d (by omega))
    obtain ⟨a, ha⟩ := hq n (by omega)
    obtain ⟨b, hb⟩ := hk n (by omega)
    exact ⟨v + a * b, by rw [Finset.sum_range_succ, hv, ha, hb, EReal.coe_add, EReal.coe_mul]⟩

theorem ref_eq_fox (h : Cert.Pre_finite_scores.fn (F := Ideal) A C = fun _ => 1#1) : refT A C = fox A C := by
  obtain ⟨hA, hC⟩ := pre_real h
  funext j
  have hr : (j 0).val < 32768 := (j 0).isLt
  have he : (j 1).val < 1024 := (j 1).isLt
  refine ((congrArg (refT A C) (ValueIdx.eq_ix2 j)).trans (refT_apply A C ⟨(j 0).val, hr⟩ ⟨(j 1).val, he⟩)).trans ?_
  show rMean (rRow A C ((j 0).val / 4096) ((j 1).val / 128) ((j 0).val % 4096))
    (fun y => va A ((j 0).val / 4096) ((j 1).val / 128) y ((j 1).val % 128)) = mean A C ((j 0).val / 4096) ((j 1).val / 128) ((j 0).val % 4096) ((j 1).val % 128)
  generalize hb : (j 0).val / 4096 = b
  generalize hh : (j 1).val / 128 = g
  have hx : (j 0).val % 4096 < 4096 := Nat.mod_lt _ (by norm_num)
  generalize (j 0).val % 4096 = x at hx ⊢
  have hqk : ∀ y, ∃ v : ℝ, y ≤ x → ∑ d ∈ Finset.range 128, qa A b g x d * ka A b g y d = v := by
    intro y
    by_cases hy : y ≤ x
    · obtain ⟨v, hv⟩ := real_dot (q := fun d => qa A b g x d) (k := fun d => ka A b g y d) (n := 128)
        (fun d hd => hA _ (by omega) _ (by omega)) (fun d hd => hA _ (by omega) _ (by omega))
      exact ⟨v, fun _ => hv⟩
    · exact ⟨0, fun hy' => absurd hy' hy⟩
  have hca : ∀ y, ∃ v : ℝ, y ≤ x → ca C b g y = v := by
    intro y
    by_cases hy : y ≤ x
    · obtain ⟨v, hv⟩ := hC g (by omega) (4096 * b + y) (by omega)
      exact ⟨v, fun _ => hv⟩
    · exact ⟨0, fun hy' => absurd hy' hy⟩
  choose qk hqk using hqk
  choose cc hca using hca
  have e1 : rRow A C b g x = masked (fun y => ((Real.log 2 * ((qk y - cc y) + cc x) : ℝ) : EReal)) x := by
    funext y
    unfold rRow masked
    refine ite_congr rfl (fun hy => ?_) fun _ => rfl
    beta_reduce
    rw [hqk y hy, hca y hy, hca x (Nat.le_refl x), ← EReal.coe_sub, ← EReal.coe_add, ← EReal.coe_mul]
    exact congrArg _ (by ring)
  have e2 : sRow A C b g x = masked (fun y => ((qk y - cc y : ℝ) : EReal)) x := by
    funext y
    unfold sRow masked sc
    refine ite_congr rfl (fun hy => ?_) fun _ => rfl
    beta_reduce
    rw [hqk y hy, hca y hy, ← EReal.coe_sub]
  unfold mean
  rw [e1, e2]
  exact rMean_eq (s := fun y => qk y - cc y) (k := cc x) _ hx

end Cert.Fox

end
-- ==== Proof.OutSpec.lean ====
/- The layer's last part as one function of a row: the gated attention and the RG-LRU's result projected, normed and added
   to the layer's input, and the per-layer embedding gated and added; and the two forms of the logistic function. -/
module

public import Idealize.ShloMosaic.PureOps.Ideal
public import Idealize.ShloMosaic.Lib.IdealHost
public import Idealize.ShloMosaic.Lib.Pointwise.Index

@[expose] public section

noncomputable section

namespace Cert.Out

open Idealize.ShloMosaic

abbrev Row : Type := Fin 1024 → EReal

/-- The reciprocal root of a row's mean square, a small constant added. -/
def rms (f : Row) : EReal :=
  Ideal.rsqrt (Ideal.div (∑ k, f k * f k) (Ideal.ofBits .f32 0x44800000#32) + Ideal.ofBits .f32 0x358637BD#32)

/-- A row over its root mean square, times a gain. -/
def norm (f g : Row) : Row := fun j => f j * rms f * g j

/-- The logistic function, by the exponential; -/
def sigm (x : EReal) : EReal := Ideal.div 1 (1 + Ideal.exp (-x))

def half : EReal := Ideal.ofBits .f32 0x3F000000#32

theorem half_eq : half = ((1 / 2 : ℝ) : EReal) := by
  unfold half
  simp [Ideal.ofBits, Ideal.ieee]
  rw [← EReal.coe_mul]
  norm_num

theorem tanh_half (r : ℝ) : Real.tanh (1 / 2 * r) = 2 * (1 + Real.exp (-r))⁻¹ - 1 := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have : a = 1 / b := by field_simp; linarith
  subst this
  field_simp
  ring

theorem sigm_coe (r : ℝ) : sigm r = (((1 + Real.exp (-r))⁻¹ : ℝ) : EReal) := by
  have h := Real.exp_pos (-r)
  have e : (1 + Ideal.exp (-(r : EReal)) : EReal) = ((1 + Real.exp (-r) : ℝ) : EReal) := by
    rw [← EReal.coe_neg, Ideal.exp_coe, EReal.coe_add, EReal.coe_one]
  have hne : ((1 + Real.exp (-r) : ℝ) : EReal) ≠ 0 := by
    rw [← EReal.coe_zero, Ne, EReal.coe_eq_coe_iff]; positivity
  unfold sigm Ideal.div
  rw [e, if_neg hne, one_mul, EReal.coe_inv]

theorem sigm_top : sigm ⊤ = 1 := by simp [sigm, Ideal.div]
theorem sigm_bot : sigm ⊥ = 0 := by
  have h : (1 : EReal) + ⊤ = ⊤ := rfl
  simp [sigm, Ideal.div, h]

/-- and by the hyperbolic tangent. -/
theorem sigm_tanh (x : EReal) : half * Ideal.tanh (half * x) + half = sigm x := by
  rw [half_eq]
  induction x with
  | bot =>
    rw [EReal.coe_mul_bot_of_pos (by norm_num), Ideal.tanh_bot, sigm_bot, show (-1 : EReal) = ((-1 : ℝ) : EReal) from rfl, ← EReal.coe_mul, ← EReal.coe_add]
    norm_num
  | top =>
    rw [EReal.coe_mul_top_of_pos (by norm_num), Ideal.tanh_top, sigm_top]
    norm_cast; norm_num
  | coe r =>
    rw [← EReal.coe_mul, Ideal.tanh_coe, sigm_coe, tanh_half]
    norm_cast
    ring

/-- A number times its logistic, by the hyperbolic tangent. -/
theorem silu_tanh (x : EReal) : half * x * (Ideal.tanh (half * x) + 1) = x * sigm x := by
  rw [half_eq]
  induction x with
  | bot =>
    rw [EReal.coe_mul_bot_of_pos (by norm_num), Ideal.tanh_bot, sigm_bot, show (-1 : EReal) + 1 = 0 by
      rw [show (-1 : EReal) = ((-1 : ℝ) : EReal) from rfl, show (1 : EReal) = ((1 : ℝ) : EReal) from rfl, ← EReal.coe_add]; norm_num]
  | top =>
    rw [EReal.coe_mul_top_of_pos (by norm_num), Ideal.tanh_top, sigm_top, mul_one, show (1 : EReal) + 1 = ((2 : ℝ) : EReal) by
      rw [show (1 : EReal) = ((1 : ℝ) : EReal) from rfl, ← EReal.coe_add]; norm_num]
    exact EReal.top_mul_coe_of_pos (by norm_num)
  | coe r =>
    rw [← EReal.coe_mul, Ideal.tanh_coe, sigm_coe, tanh_half]
    norm_cast
    ring

/-- The weights: the attention's gain, the output projection, its norm's gain, the embedding's projection and its gain, the
    gate's projection and its bias. -/
structure Wts where
  again : Row
  wout : Fin 2048 → Row
  pgain : Row
  wple : Fin 256 → Row
  egain : Row
  wgate : Fin 1024 → Row
  bgate : Row

variable (w : Wts) (oa ga yl x : Row) (p : Fin 256 → EReal)

/-- The attention's row, normed and gated; -/
def ya : Row := fun j => norm oa w.again j * (ga j * sigm (ga j))

/-- projected with the RG-LRU's row; -/
def mix : Row := fun j => ∑ k : Fin 1024, ya w oa ga k * w.wout ⟨k.val, by omega⟩ j + ∑ k : Fin 1024, yl k * w.wout ⟨1024 + k.val, by omega⟩ j

/-- normed, and added to the input; -/
def resid : Row := fun j => x j + norm (mix w oa ga yl) w.pgain j

/-- the embedding's row, projected and normed; -/
def emb : Row := norm (fun j => ∑ k : Fin 256, p k * w.wple k j) w.egain

/-- the result's row. -/
def out : Row := fun j => resid w oa ga yl x j
  + sigm (∑ k : Fin 1024, resid w oa ga yl x k * w.wgate k j + w.bgate j) * emb w p j

/-! ## The whole array -/

/-- A row of an array, and a vector as a row. -/
def row {n k : ℕ} (X : (⟨2, ![n, k]⟩ : Shape).Idx → EReal) (r : Fin n) : Fin k → EReal := fun j => X (ix2 r j)
def vec (v : (⟨1, ![1024]⟩ : Shape).Idx → EReal) : Row := fun j => v (ix1 j)

/-- The projection's arguments. -/
structure Args where
  oa : (⟨2, ![32768, 1024]⟩ : Shape).Idx → EReal
  ga : (⟨2, ![32768, 1024]⟩ : Shape).Idx → EReal
  yl : (⟨2, ![32768, 1024]⟩ : Shape).Idx → EReal
  x : (⟨2, ![32768, 1024]⟩ : Shape).Idx → EReal
  p : (⟨2, ![32768, 256]⟩ : Shape).Idx → EReal
  again : (⟨1, ![1024]⟩ : Shape).Idx → EReal
  wout : (⟨2, ![2048, 1024]⟩ : Shape).Idx → EReal
  pgain : (⟨1, ![1024]⟩ : Shape).Idx → EReal
  wple : (⟨2, ![256, 1024]⟩ : Shape).Idx → EReal
  egain : (⟨1, ![1024]⟩ : Shape).Idx → EReal
  wgate : (⟨2, ![1024, 1024]⟩ : Shape).Idx → EReal
  bgate : (⟨1, ![1024]⟩ : Shape).Idx → EReal

/-- Their weights. -/
def Args.wts (a : Args) : Wts := ⟨vec a.again, row a.wout, vec a.pgain, row a.wple, vec a.egain, row a.wgate, vec a.bgate⟩

/-- The result: each row that of the arguments' rows. -/
def result (a : Args) : (⟨2, ![32768, 1024]⟩ : Shape).Idx → EReal := fun i =>
  out a.wts (row a.oa (i 0)) (row a.ga (i 0)) (row a.yl (i 0)) (row a.x (i 0)) (row a.p (i 0)) (i 1)

end Cert.Out

end
-- ==== Proof.OutBody.lean ====
/- The output projection's body, read at an index: each of its two halves holds, row by row, the result of the rows of the
   blocks that it reads. -/
module

public import proofs.«01_k».proof.Proof.OutSpec
public import proofs.«01_k».proof.Proof.Gen.Kernel2Ideal.Value
public import Idealize.ShloMosaic.Lib.Pointwise
public import Idealize.ShloMosaic.Lib.Pipeline.ValueKit

@[expose] public section

noncomputable section

namespace Cert.Out

open Cert.Kernel2Ideal Cert.Kernel2Ideal.Gen
open Idealize.ShloMosaic

variable (r : Fin 512) (j : Fin 1024)

/-! ## The two halves' payloads -/

theorem pay3_apply (a b : Vec Ideal S512x1024 .bf16) (g : Vec Ideal S1x1024 .f32) :
    k0_pay3 (F := Ideal) a b g (ix2 r j) = norm (row a r) (row g 0) j * (row b r j * sigm (row b r j)) := by
  rw [← silu_tanh]
  pointwise [k0_pay3]
  rfl

theorem pay7_apply (a b : Vec Ideal S512x1024 .bf16) (g h : Vec Ideal S1024x1024 .bf16) :
    k0_pay7 (F := Ideal) a g b h (ix2 r j) = ∑ k : Fin 1024, row a r k * row g k j + ∑ k : Fin 1024, row b r k * row h k j := by
  pointwise [k0_pay7]
  rfl

theorem pay8_apply (a b y : Vec Ideal S512x1024 .bf16) (g : Vec Ideal S1x1024 .f32) (u v : Vec Ideal S1024x1024 .bf16) :
    k0_pay8 (F := Ideal) (k0_pay4 a) (k0_pay5 b) (k0_pay6 a) g u y v (ix2 r j)
      = ∑ k : Fin 1024, (norm (row a r) (row g 0) k * (row b r k * sigm (row b r k))) * row u k j + ∑ k : Fin 1024, row y r k * row v k j := by
  simp only [← silu_tanh]
  pointwise [k0_pay8, k0_pay4, k0_pay5, k0_pay6]
  rfl

theorem pay11_apply (a : Vec Ideal S512x256 .f32) (u : Vec Ideal S256x1024 .bf16) (g : Vec Ideal S1x1024 .f32) :
    k0_pay11 (F := Ideal) (k0_pay9 a u) (k0_pay10 a u) g (ix2 r j)
      = norm (fun j => ∑ k : Fin 256, row a r k * row u k j) (row g 0) j := by
  pointwise [k0_pay11, k0_pay9, k0_pay10]
  rfl

theorem pay12_apply (a : Vec Ideal S512x256 .f32) (u : Vec Ideal S256x1024 .bf16) (g : Vec Ideal S1x1024 .f32) :
    k0_pay12 (F := Ideal) a u g (ix2 r j) = norm (fun j => ∑ k : Fin 256, row a r k * row u k j) (row g 0) j := by
  pointwise [k0_pay12]
  rfl

theorem pay14_apply (v x : Vec Ideal S512x1024 .f32) (g : Vec Ideal S1x1024 .f32) :
    k0_pay14 (F := Ideal) v x (k0_pay13 v) g (ix2 r j) = row x r j + norm (row v r) (row g 0) j := by
  pointwise [k0_pay14, k0_pay13]
  rfl

theorem pay15_apply (v x : Vec Ideal S512x1024 .f32) (g : Vec Ideal S1x1024 .f32) :
    k0_pay15 (F := Ideal) v x g (ix2 r j) = row x r j + norm (row v r) (row g 0) j := by
  pointwise [k0_pay15]
  rfl

theorem pay17_apply (v x : Vec Ideal S512x1024 .f32) (g b : Vec Ideal S1x1024 .f32) (u : Vec Ideal S1024x1024 .bf16) :
    k0_pay17 (F := Ideal) v x (k0_pay13 v) g u b (ix2 r j)
      = half * Ideal.tanh (half * (∑ k : Fin 1024, row (k0_pay14 (F := Ideal) v x (k0_pay13 v) g) r k * row u k j + row b 0 j)) := by
  pointwise [k0_pay17]
  rfl

theorem pay16_apply (v x : Vec Ideal S512x1024 .f32) (g : Vec Ideal S1x1024 .f32) (u : Vec Ideal S1024x1024 .bf16) :
    k0_pay16 (F := Ideal) v x g u (ix2 r j) = ∑ k : Fin 1024, row (k0_pay15 (F := Ideal) v x g) r k * row u k j := by
  pointwise [k0_pay16]
  rfl

theorem pay1_apply (e h z : Vec Ideal S512x1024 .f32) :
    k0_pay1 (F := Ideal) e h z k0_pay18 (ix2 r j) = row h r j + (row z r j + half) * row e r j := by
  pointwise [k0_pay1, k0_pay18]
  rfl

theorem pay2_apply (e h z : Vec Ideal S512x1024 .f32) (b : Vec Ideal S1x1024 .f32) :
    k0_pay2 (F := Ideal) e h z b (ix2 r j) = row h r j + (half * Ideal.tanh (half * (row z r j + row b 0 j)) + half) * row e r j := by
  pointwise [k0_pay2]
  rfl

/-! ## The loads -/

section Loads

theorem ld_top {e : EltTy} {k : ℕ} (inb) (X : (⟨2, ![1024, k]⟩ : Shape).Idx → Elt Ideal e) (r : Fin 512) (j : Fin k) :
    View.ld X (Rect.unit (s := ⟨2, ![1024, k]⟩) ![0, 0] ![512, k] inb) (ix2 r j) = X (ix2 ⟨r.val, by omega⟩ j) := by
  refine congrArg X (funext fun a => ?_)
  fin_cases a
  · exact Fin.ext (by show 0 + 1 * r.val = r.val; omega)
  · exact Fin.ext (by show 0 + 1 * j.val = j.val; omega)

theorem ld_bottom {e : EltTy} {k : ℕ} (inb) (X : (⟨2, ![1024, k]⟩ : Shape).Idx → Elt Ideal e) (r : Fin 512) (j : Fin k) :
    View.ld X (Rect.unit (s := ⟨2, ![1024, k]⟩) ![512, 0] ![512, k] inb) (ix2 r j) = X (ix2 ⟨512 + r.val, by omega⟩ j) := by
  refine congrArg X (funext fun a => ?_)
  fin_cases a
  · exact Fin.ext (by show 512 + 1 * r.val = 512 + r.val; omega)
  · exact Fin.ext (by show 0 + 1 * j.val = j.val; omega)

theorem ld_upper (inb) (X : Vec Ideal S2048x1024 .bf16) (r : Fin 1024) (j : Fin 1024) :
    View.ld X (Rect.unit (s := S2048x1024) ![0, 0] ![1024, 1024] inb) (ix2 r j) = X (ix2 ⟨r.val, by omega⟩ j) := by
  refine congrArg X (funext fun a => ?_)
  fin_cases a
  · exact Fin.ext (by show 0 + 1 * r.val = r.val; omega)
  · exact Fin.ext (by show 0 + 1 * j.val = j.val; omega)

theorem ld_lower (inb) (X : Vec Ideal S2048x1024 .bf16) (r : Fin 1024) (j : Fin 1024) :
    View.ld X (Rect.unit (s := S2048x1024) ![1024, 0] ![1024, 1024] inb) (ix2 r j) = X (ix2 ⟨1024 + r.val, by omega⟩ j) := by
  refine congrArg X (funext fun a => ?_)
  fin_cases a
  · exact Fin.ext (by show 1024 + 1 * r.val = 1024 + r.val; omega)
  · exact Fin.ext (by show 0 + 1 * j.val = j.val; omega)

end Loads

/-! ## The block -/

section Block

variable (x0 x1 x2 : Vec Ideal S1024x1024 .bf16) (x3 : Vec Ideal S1024x1024 .f32) (x4 : Vec Ideal S1024x256 .f32)
  (x5 : Vec Ideal S1x1024 .f32) (x6 : Vec Ideal S2048x1024 .bf16) (x7 : Vec Ideal S1x1024 .f32) (x8 : Vec Ideal S256x1024 .bf16)
  (x9 : Vec Ideal S1x1024 .f32) (x10 : Vec Ideal S1024x1024 .bf16) (x11 : Vec Ideal S1x1024 .f32)

/-- The weights that a point's blocks hold. -/
def wts : Wts := ⟨row x5 0, row x6, row x7 0, row x8, row x9 0, row x10, row x11 0⟩

theorem top_apply :
    k0_pay1 (F := Ideal) (k0_pay11 (k0_pay9 (View.ld x4 r0_5) (View.ld x8 r0_6)) (k0_pay10 (View.ld x4 r0_5) (View.ld x8 r0_6)) (View.ld x9 r0_1))
      (k0_pay14 (k0_pay19 x0 x1 x2 x3 x4 x5 x6 x7 x8 x9 x10 x11) (View.ld x3 r0_0) (k0_pay21 x0 x1 x2 x3 x4 x5 x6 x7 x8 x9 x10 x11) (View.ld x7 r0_1))
      (k0_pay17 (k0_pay19 x0 x1 x2 x3 x4 x5 x6 x7 x8 x9 x10 x11) (View.ld x3 r0_0) (k0_pay21 x0 x1 x2 x3 x4 x5 x6 x7 x8 x9 x10 x11) (View.ld x7 r0_1) (View.ld x10 r0_8) (View.ld x11 r0_1))
      k0_pay18 (ix2 r j)
    = out (wts x5 x6 x7 x8 x9 x10 x11) (row x0 ⟨r.val, by omega⟩) (row x1 ⟨r.val, by omega⟩) (row x2 ⟨r.val, by omega⟩)
        (row x3 ⟨r.val, by omega⟩) (row x4 ⟨r.val, by omega⟩) j := by
  have hw : View.ld x8 r0_6 = x8 := View.ld_unit_lit _ _ (by decide)
  have h9 : View.ld x9 r0_1 = x9 := View.ld_unit_lit _ _ (by decide)
  have h7 : View.ld x7 r0_1 = x7 := View.ld_unit_lit _ _ (by decide)
  have h5 : View.ld x5 r0_1 = x5 := View.ld_unit_lit _ _ (by decide)
  have h11 : View.ld x11 r0_1 = x11 := View.ld_unit_lit _ _ (by decide)
  have h10 : View.ld x10 r0_8 = x10 := View.ld_unit_lit _ _ (by decide)
  have e4 : row (View.ld x4 r0_5) r = row x4 ⟨r.val, by omega⟩ := funext fun j => ld_top _ x4 r j
  have e3 : row (View.ld x3 r0_0) r = row x3 ⟨r.val, by omega⟩ := funext fun j => ld_top _ x3 r j
  have e0 : row (View.ld x0 r0_0) r = row x0 ⟨r.val, by omega⟩ := funext fun j => ld_top _ x0 r j
  have e1 : row (View.ld x1 r0_0) r = row x1 ⟨r.val, by omega⟩ := funext fun j => ld_top _ x1 r j
  have e2 : row (View.ld x2 r0_0) r = row x2 ⟨r.val, by omega⟩ := funext fun j => ld_top _ x2 r j
  have hm : row (k0_pay19 x0 x1 x2 x3 x4 x5 x6 x7 x8 x9 x10 x11) r = mix (wts x5 x6 x7 x8 x9 x10 x11) (row x0 ⟨r.val, by omega⟩)
      (row x1 ⟨r.val, by omega⟩) (row x2 ⟨r.val, by omega⟩) := by
    funext j
    refine (pay7_apply r j _ _ _ _).trans (congrArg₂ (· + ·) (Finset.sum_congr rfl fun k _ => ?_) (Finset.sum_congr rfl fun k _ => ?_))
    · refine congrArg₂ (· * ·) ((pay3_apply r k _ _ _).trans ?_) (ld_upper _ x6 k j)
      rw [e0, e1, h5]; rfl
    · rw [e2]; exact congrArg _ (ld_lower _ x6 k j)
  have hr : row (k0_pay14 (F := Ideal) (k0_pay19 x0 x1 x2 x3 x4 x5 x6 x7 x8 x9 x10 x11) (View.ld x3 r0_0)
      (k0_pay13 (k0_pay19 x0 x1 x2 x3 x4 x5 x6 x7 x8 x9 x10 x11)) (View.ld x7 r0_1)) r
      = resid (wts x5 x6 x7 x8 x9 x10 x11) (row x0 ⟨r.val, by omega⟩) (row x1 ⟨r.val, by omega⟩) (row x2 ⟨r.val, by omega⟩) (row x3 ⟨r.val, by omega⟩) := by
    funext j
    refine (pay14_apply r j _ _ _).trans ?_
    rw [hm, e3, h7]; rfl
  refine (pay1_apply r j _ _ _).trans ?_
  have hz := pay17_apply r j (k0_pay19 x0 x1 x2 x3 x4 x5 x6 x7 x8 x9 x10 x11) (View.ld x3 r0_0) (View.ld x7 r0_1) (View.ld x11 r0_1) (View.ld x10 r0_8)
  have he := pay11_apply r j (View.ld x4 r0_5) (View.ld x8 r0_6) (View.ld x9 r0_1)
  unfold out
  rw [← sigm_tanh]
  refine congrArg₂ (· + ·) (congrFun hr j) (congrArg₂ (· * ·) (congrArg (· + half) (hz.trans ?_)) (he.trans ?_))
  · rw [hr, h10, h11]; rfl
  · rw [e4, hw, h9]; rfl

theorem bottom_apply :
    k0_pay2 (F := Ideal) (k0_pay12 (View.ld x4 r0_7) (View.ld x8 r0_6) (View.ld x9 r0_1))
      (k0_pay15 (k0_pay20 x0 x1 x2 x3 x4 x5 x6 x7 x8 x9 x10 x11) (View.ld x3 r0_2) (View.ld x7 r0_1))
      (k0_pay16 (k0_pay20 x0 x1 x2 x3 x4 x5 x6 x7 x8 x9 x10 x11) (View.ld x3 r0_2) (View.ld x7 r0_1) (View.ld x10 r0_8)) (View.ld x11 r0_1) (ix2 r j)
    = out (wts x5 x6 x7 x8 x9 x10 x11) (row x0 ⟨512 + r.val, by omega⟩) (row x1 ⟨512 + r.val, by omega⟩) (row x2 ⟨512 + r.val, by omega⟩)
        (row x3 ⟨512 + r.val, by omega⟩) (row x4 ⟨512 + r.val, by omega⟩) j := by
  have hw : View.ld x8 r0_6 = x8 := View.ld_unit_lit _ _ (by decide)
  have h9 : View.ld x9 r0_1 = x9 := View.ld_unit_lit _ _ (by decide)
  have h7 : View.ld x7 r0_1 = x7 := View.ld_unit_lit _ _ (by decide)
  have h5 : View.ld x5 r0_1 = x5 := View.ld_unit_lit _ _ (by decide)
  have h11 : View.ld x11 r0_1 = x11 := View.ld_unit_lit _ _ (by decide)
  have h10 : View.ld x10 r0_8 = x10 := View.ld_unit_lit _ _ (by decide)
  have e4 : row (View.ld x4 r0_7) r = row x4 ⟨512 + r.val, by omega⟩ := funext fun j => ld_bottom _ x4 r j
  have e3 : row (View.ld x3 r0_2) r = row x3 ⟨512 + r.val, by omega⟩ := funext fun j => ld_bottom _ x3 r j
  have e0 : row (View.ld x0 r0_2) r = row x0 ⟨512 + r.val, by omega⟩ := funext fun j => ld_bottom _ x0 r j
  have e1 : row (View.ld x1 r0_2) r = row x1 ⟨512 + r.val, by omega⟩ := funext fun j => ld_bottom _ x1 r j
  have e2 : row (View.ld x2 r0_2) r = row x2 ⟨512 + r.val, by omega⟩ := funext fun j => ld_bottom _ x2 r j
  have hm : row (k0_pay20 x0 x1 x2 x3 x4 x5 x6 x7 x8 x9 x10 x11) r = mix (wts x5 x6 x7 x8 x9 x10 x11) (row x0 ⟨512 + r.val, by omega⟩)
      (row x1 ⟨512 + r.val, by omega⟩) (row x2 ⟨512 + r.val, by omega⟩) := by
    funext j
    refine (pay8_apply r j _ _ _ _ _ _).trans (congrArg₂ (· + ·) (Finset.sum_congr rfl fun k _ => ?_) (Finset.sum_congr rfl fun k _ => ?_))
    · refine congrArg₂ (· * ·) ?_ (ld_upper _ x6 k j)
      rw [e0, e1, h5]; rfl
    · rw [e2]; exact congrArg _ (ld_lower _ x6 k j)
  have hr : row (k0_pay15 (F := Ideal) (k0_pay20 x0 x1 x2 x3 x4 x5 x6 x7 x8 x9 x10 x11) (View.ld x3 r0_2) (View.ld x7 r0_1)) r
      = resid (wts x5 x6 x7 x8 x9 x10 x11) (row x0 ⟨512 + r.val, by omega⟩) (row x1 ⟨512 + r.val, by omega⟩) (row x2 ⟨512 + r.val, by omega⟩) (row x3 ⟨512 + r.val, by omega⟩) := by
    funext j
    refine (pay15_apply r j _ _ _).trans ?_
    rw [hm, e3, h7]; rfl
  refine (pay2_apply r j _ _ _ _).trans ?_
  have hz := pay16_apply r j (k0_pay20 x0 x1 x2 x3 x4 x5 x6 x7 x8 x9 x10 x11) (View.ld x3 r0_2) (View.ld x7 r0_1) (View.ld x10 r0_8)
  have he := pay12_apply r j (View.ld x4 r0_7) (View.ld x8 r0_6) (View.ld x9 r0_1)
  rw [sigm_tanh]
  unfold out
  refine congrArg₂ (· + ·) (congrFun hr j) (congrArg₂ (· * ·) (congrArg sigm (congrArg₂ (· + ·) (hz.trans ?_) ?_)) (he.trans ?_))
  · rw [hr, h10]; rfl
  · rw [h11]; rfl
  · rw [e4, hw, h9]; rfl

/-- The block that a point leaves: each row is the result of the rows of the blocks. -/
theorem block_apply (y : S1024x1024.Idx) :
    out0_12 x0 x1 x2 x3 x4 x5 x6 x7 x8 x9 x10 x11 y
      = out (wts x5 x6 x7 x8 x9 x10 x11) (row x0 (y 0)) (row x1 (y 0)) (row x2 (y 0)) (row x3 (y 0)) (row x4 (y 0)) (y 1) := by
  unfold out0_12
  refine View.canon_eq_of_allAt _ _ _ (cover0_12 _ _ y) ?_
  refine View.allAt_cons _ _ _ (fun z hz => ?_) (View.allAt_cons _ _ _ (fun z hz => ?_) (by intro p hp; exact absurd hp List.not_mem_nil))
  · subst hz
    obtain ⟨r, j, rfl⟩ : ∃ (r : Fin 512) (j : Fin 1024), z = ix2 r j := ⟨z 0, z 1, by funext a; fin_cases a <;> rfl⟩
    refine (bottom_apply r j x0 x1 x2 x3 x4 x5 x6 x7 x8 x9 x10 x11).trans ?_
    have h0 : (r0_2.emb (ix2 r j)) 0 = (⟨512 + r.val, by omega⟩ : Fin 1024) := Fin.ext (by rw [Rect.emb_apply]; show 512 + 1 * r.val = 512 + r.val; omega)
    have h1 : (r0_2.emb (ix2 r j)) 1 = j := Fin.ext (by rw [Rect.emb_apply]; show 0 + 1 * j.val = j.val; omega)
    rw [h0, h1]
  · subst hz
    obtain ⟨r, j, rfl⟩ : ∃ (r : Fin 512) (j : Fin 1024), z = ix2 r j := ⟨z 0, z 1, by funext a; fin_cases a <;> rfl⟩
    refine (top_apply r j x0 x1 x2 x3 x4 x5 x6 x7 x8 x9 x10 x11).trans ?_
    have h0 : (r0_0.emb (ix2 r j)) 0 = (⟨r.val, by omega⟩ : Fin 1024) := Fin.ext (by rw [Rect.emb_apply]; show 0 + 1 * r.val = r.val; omega)
    have h1 : (r0_0.emb (ix2 r j)) 1 = j := Fin.ext (by rw [Rect.emb_apply]; show 0 + 1 * j.val = j.val; omega)
    rw [h0, h1]

end Block

end Cert.Out

end
-- ==== Proof.OutArray.lean ====
/- The output projection's array: its blocks cover it, so it is the result of the twelve arguments. -/
module

public import proofs.«01_k».proof.Proof.OutBody
public import Idealize.ShloMosaic.Lib.Pipeline.ValueKit
public import Idealize.ShloMosaic.Lib.IdealHost
public import Idealize.ShloMosaic.Lib.KernelVsHost
public import Idealize.ShloMosaic.Lib.Pipeline.Value

@[expose] public section

set_option maxRecDepth 16384

noncomputable section

namespace Cert.Out

open Cert.Kernel2Ideal Cert.Kernel2Ideal.Gen
open Idealize.ShloMosaic Idealize.ShloMosaic.TcCoe Idealize.ShloMosaic.Tactic Idealize.ShloMosaic.StableHlo
open Idealize.ShloMosaic.Pipeline (Dat Cfg Window)

variable (m : (ℓ : Loc nD τ sig) → Buf (Elt Ideal) ℓ) (c : Dev nD)

/-- The twelve arguments. -/
def args : Args where
  oa := m ((c : Thread nD τ).loc main_arg0)
  ga := m ((c : Thread nD τ).loc main_arg1)
  yl := m ((c : Thread nD τ).loc main_arg2)
  x := m ((c : Thread nD τ).loc main_arg3)
  p := m ((c : Thread nD τ).loc main_arg4)
  again := m ((c : Thread nD τ).loc main_arg5)
  wout := m ((c : Thread nD τ).loc main_arg6)
  pgain := m ((c : Thread nD τ).loc main_arg7)
  wple := m ((c : Thread nD τ).loc main_arg8)
  egain := m ((c : Thread nD τ).loc main_arg9)
  wgate := m ((c : Thread nD τ).loc main_arg10)
  bgate := m ((c : Thread nD τ).loc main_arg11)

/-! ## What the call's weights hold: the arguments, reshaped or rounded -/

theorem V_v0 : V m c main_v0 = shapeCast S1x1024 (args m c).again shapeCasts_S1024_S1x1024 := by
  unfold V; after_results_simp <;> rfl
theorem V_v1 : V m c main_v1 = (args m c).wout := by
  unfold V; after_results_simp <;> rfl
theorem V_v2 : V m c main_v2 = shapeCast S1x1024 (args m c).pgain shapeCasts_S1024_S1x1024 := by
  unfold V; after_results_simp <;> rfl
theorem V_v3 : V m c main_v3 = (args m c).wple := by
  unfold V; after_results_simp <;> rfl
theorem V_v4 : V m c main_v4 = shapeCast S1x1024 (args m c).egain shapeCasts_S1024_S1x1024 := by
  unfold V; after_results_simp <;> rfl
theorem V_v5 : V m c main_v5 = (args m c).wgate := by
  unfold V; after_results_simp <;> rfl
theorem V_v6 : V m c main_v6 = shapeCast S1x1024 (args m c).bgate shapeCasts_S1024_S1x1024 := by
  unfold V; after_results_simp <;> rfl

/-- A vector as an array of one row. -/
theorem row_cast (v : (⟨1, ![1024]⟩ : Shape).Idx → EReal) (X : (⟨2, ![1, 1024]⟩ : Shape).Idx → EReal)
    (h : X = shapeCast S1x1024 v shapeCasts_S1024_S1x1024) : row X 0 = vec v := by
  subst h
  funext j
  unfold row vec
  exact Idealize.ShloMosaic.shapeCast_apply _ _ _ (ix1 j) (by
    rw [Shape.rowMajor_val_two, Shape.rowMajor_val_one]
    show j.val = 0 * 1024 + j.val
    omega)

/-! ## The windows' blocks -/

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 0] :=
  (by decide +kernel : ∀ t : Fin grid0.N, win0_2.index t = ![(grid0.coords t 0).val, 0])
theorem index3 : ∀ t : Fin cfg0.N, win0_3.index t = ![(grid0.coords t 0).val, 0] :=
  (by decide +kernel : ∀ t : Fin grid0.N, win0_3.index t = ![(grid0.coords t 0).val, 0])
theorem index4 : ∀ t : Fin cfg0.N, win0_4.index t = ![(grid0.coords t 0).val, 0] :=
  (by decide +kernel : ∀ t : Fin grid0.N, win0_4.index t = ![(grid0.coords t 0).val, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![(grid0.coords t 0).val, 0] :=
  (by decide +kernel : ∀ t : Fin grid0.N, win0_12.index t = ![(grid0.coords t 0).val, 0])

theorem coord_lt (t : Fin cfg0.N) : (grid0.coords t 0).val < 32 := (grid0.coords t 0).isLt

variable (t : Fin cfg0.N)

/-- The array's row that a block's row is. -/
def at_ (r : Fin 1024) : Fin 32768 := ⟨1024 * (grid0.coords t 0).val + r.val, by have := coord_lt t; omega⟩

theorem iblk0 (r : Fin 1024) : row (n := 1024) (k := 1024) (iblk m c 0 t) r = row (args m c).oa (at_ t r) := by
  funext j
  unfold row at_
  blk_simp [iblk]
  refine congrArg (args m c).oa ?_
  blk_ext [index0]
theorem iblk1 (r : Fin 1024) : row (n := 1024) (k := 1024) (iblk m c 1 t) r = row (args m c).ga (at_ t r) := by
  funext j
  unfold row at_
  blk_simp [iblk]
  refine congrArg (args m c).ga ?_
  blk_ext [index1]
theorem iblk2 (r : Fin 1024) : row (n := 1024) (k := 1024) (iblk m c 2 t) r = row (args m c).yl (at_ t r) := by
  funext j
  unfold row at_
  blk_simp [iblk]
  refine congrArg (args m c).yl ?_
  blk_ext [index2]
theorem iblk3 (r : Fin 1024) : row (n := 1024) (k := 1024) (iblk m c 3 t) r = row (args m c).x (at_ t r) := by
  funext j
  unfold row at_
  blk_simp [iblk]
  refine congrArg (args m c).x ?_
  blk_ext [index3]
theorem iblk4 (r : Fin 1024) : row (n := 1024) (k := 256) (iblk m c 4 t) r = row (args m c).p (at_ t r) := by
  funext j
  unfold row at_
  blk_simp [iblk]
  refine congrArg (args m c).p ?_
  blk_ext [index4]

theorem iblk5 : (iblk m c 5 t : (⟨2, ![1, 1024]⟩ : Shape).Idx → EReal) = shapeCast S1x1024 (args m c).again shapeCasts_S1024_S1x1024 := by
  funext i
  blk_simp [iblk]
  refine Eq.trans (congrArg (V m c main_v0 : (⟨2, ![1, 1024]⟩ : Shape).Idx → EReal) (?_ : _ = i)) (congrFun (V_v0 m c) i)
  blk_ext [index5]
theorem iblk6 : (iblk m c 6 t : (⟨2, ![2048, 1024]⟩ : Shape).Idx → EReal) = (args m c).wout := by
  funext i
  blk_simp [iblk]
  refine Eq.trans (congrArg (V m c main_v1 : (⟨2, ![2048, 1024]⟩ : Shape).Idx → EReal) (?_ : _ = i)) (congrFun (V_v1 m c) i)
  blk_ext [index6]
theorem iblk7 : (iblk m c 7 t : (⟨2, ![1, 1024]⟩ : Shape).Idx → EReal) = shapeCast S1x1024 (args m c).pgain shapeCasts_S1024_S1x1024 := by
  funext i
  blk_simp [iblk]
  refine Eq.trans (congrArg (V m c main_v2 : (⟨2, ![1, 1024]⟩ : Shape).Idx → EReal) (?_ : _ = i)) (congrFun (V_v2 m c) i)
  blk_ext [index7]
theorem iblk8 : (iblk m c 8 t : (⟨2, ![256, 1024]⟩ : Shape).Idx → EReal) = (args m c).wple := by
  funext i
  blk_simp [iblk]
  refine Eq.trans (congrArg (V m c main_v3 : (⟨2, ![256, 1024]⟩ : Shape).Idx → EReal) (?_ : _ = i)) (congrFun (V_v3 m c) i)
  blk_ext [index8]
theorem iblk9 : (iblk m c 9 t : (⟨2, ![1, 1024]⟩ : Shape).Idx → EReal) = shapeCast S1x1024 (args m c).egain shapeCasts_S1024_S1x1024 := by
  funext i
  blk_simp [iblk]
  refine Eq.trans (congrArg (V m c main_v4 : (⟨2, ![1, 1024]⟩ : Shape).Idx → EReal) (?_ : _ = i)) (congrFun (V_v4 m c) i)
  blk_ext [index9]
theorem iblk10 : (iblk m c 10 t : (⟨2, ![1024, 1024]⟩ : Shape).Idx → EReal) = (args m c).wgate := by
  funext i
  blk_simp [iblk]
  refine Eq.trans (congrArg (V m c main_v5 : (⟨2, ![1024, 1024]⟩ : Shape).Idx → EReal) (?_ : _ = i)) (congrFun (V_v5 m c) i)
  blk_ext [index10]
theorem iblk11 : (iblk m c 11 t : (⟨2, ![1, 1024]⟩ : Shape).Idx → EReal) = shapeCast S1x1024 (args m c).bgate shapeCasts_S1024_S1x1024 := by
  funext i
  blk_simp [iblk]
  refine Eq.trans (congrArg (V m c main_v6 : (⟨2, ![1, 1024]⟩ : Shape).Idx → EReal) (?_ : _ = i)) (congrFun (V_v6 m c) i)
  blk_ext [index11]

/-- The weights that a point's blocks hold are the arguments'. -/
theorem wts_eq : wts (iblk m c 5 t) (iblk m c 6 t) (iblk m c 7 t) (iblk m c 8 t) (iblk m c 9 t) (iblk m c 10 t) (iblk m c 11 t) = (args m c).wts := by
  unfold wts Args.wts
  rw [row_cast _ _ (iblk5 m c t), row_cast _ _ (iblk7 m c t), row_cast _ _ (iblk9 m c t), row_cast _ _ (iblk11 m c t)]
  rw [iblk6 m c t, iblk8 m c t, iblk10 m c t]

/-- The output array is the result of the arguments. -/
theorem out_eq (c : Dev nD) : (dats m 0 c).arrAt 12 cfg0.N = result (args m c) := by
  refine (dats m 0 c).arrAt_eq_of_covers 12 _ (by decide +kernel) fun t hf y => ?_
  blk_simp
  rw [after0_12]
  refine (block_apply _ _ _ _ _ _ _ _ _ _ _ _ _).trans ?_
  have hy : (y 0).val < 1024 := (y 0).isLt
  have h0 : ((cfg0.win 12).blk t).view.emb y 0 = at_ t ⟨(y 0).val, hy⟩ := by
    apply Fin.ext
    blk_simp [index12]
    show (grid0.coords t 0).val * 1024 + (y 0).val = 1024 * (grid0.coords t 0).val + (y 0).val
    omega
  have h1 : ((cfg0.win 12).blk t).view.emb y 1 = y 1 := by
    apply Fin.ext
    blk_simp [index12]
  refine Eq.trans ?_ (congrArg₂ (fun (r : Fin 32768) (j : Fin 1024) => out (args m c).wts (row (args m c).oa r) (row (args m c).ga r)
    (row (args m c).yl r) (row (args m c).x r) (row (args m c).p r) j) h0 h1).symm
  beta_reduce
  rw [wts_eq, ← iblk0, ← iblk1, ← iblk2, ← iblk3, ← iblk4]
  rfl

end Cert.Out

end
-- ==== Proof.OutRef.lean ====
/- The output projection's reference, read at an index: its rows are the same function of the arguments' rows. -/
module

public import proofs.«01_k».proof.Proof.OutSpec
public import proofs.«01_k».proof.Proof.Gen.Reference2Ideal.Run
public import Idealize.ShloMosaic.Lib.Pointwise
public import Idealize.ShloMosaic.Lib.Pipeline.Value

@[expose] public section

set_option maxRecDepth 8192

noncomputable section

namespace Cert.Out

open Cert.Reference2Ideal Cert.Reference2Ideal.Gen
open Idealize.ShloMosaic

/-- A gain or a bias, beside every row. -/
def vecT (v : FVec Ideal S1024 .f32) : FVec Ideal S32768x1024 .f32 :=
  broadcastInDim S32768x1024 ![0, 1] bcast_S1x1024_S32768x1024_0_1 (broadcastInDim S1x1024 ![1] bcast_S1024_S1x1024_1 v)

/-- The rows normed. -/
def normT (X : FVec Ideal S32768x1024 .f32) (v : FVec Ideal S1024 .f32) : FVec Ideal S32768x1024 .f32 :=
  mulf (mulf X (broadcastInDim S32768x1024 ![0, 1] bcast_S32768x1_S32768x1024_0_1 (Host.rsqrt (addf
    (Host.divf (broadcastInDim S32768x1 ![0] bcast_S32768_S32768x1_0 (Host.reduceAdd (mulf X X) (constant S_ .f32 0x00000000#32)
      reducesTo_S32768x1024_S32768_d1 h_S_)) (broadcastInDim S32768x1 ![] bcast_S_S32768x1 (constant S_ .f32 0x44800000#32)))
    (broadcastInDim S32768x1 ![] bcast_S_S32768x1 (constant S_ .f32 0x358637BD#32)))))) (vecT v)

/-- The logistic function of an array. -/
def sigmT (X : FVec Ideal S32768x1024 .f32) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32)) (Host.exp (Host.negf X)))

/-- The two arrays of a row's length beside each other, and their projection. -/
def mixT (Y Z : FVec Ideal S32768x1024 .f32) (W : FVec Ideal S2048x1024 .f32) : FVec Ideal S32768x1024 .f32 :=
  Host.dotGeneral dot_S32768x2048_S2048x1024_S32768x1024_1_0_0_1_n_n none
    (concatenate S32768x2048 1 [⟨S32768x1024, Y⟩, ⟨S32768x1024, Z⟩] concatenates_S32768x1024_S32768x1024_S32768x2048_d1) W

/-- The gated attention. -/
def yaT (oa ga : FVec Ideal S32768x1024 .bf16) (again : FVec Ideal S1024 .f32) : FVec Ideal S32768x1024 .f32 :=
  mulf (normT (extf .f32 oa bitsLt_bf16_f32) again) (mulf (extf .f32 ga bitsLt_bf16_f32) (sigmT (extf .f32 ga bitsLt_bf16_f32)))

/-- The embedding, projected. -/
def pleT (p : FVec Ideal S32768x256 .f32) (W : FVec Ideal S256x1024 .f32) : FVec Ideal S32768x1024 .f32 :=
  Host.dotGeneral dot_S32768x256_S256x1024_S32768x1024_1_0_0_1_n_n none p W

/-- The gate's projection. -/
def gateT (X : FVec Ideal S32768x1024 .f32) (W : FVec Ideal S1024x1024 .f32) (b : FVec Ideal S1024 .f32) : FVec Ideal S32768x1024 .f32 :=
  addf (Host.dotGeneral dot_S32768x1024_S1024x1024_S32768x1024_1_0_0_1_n_n none X W) (vecT b)

/-- The last step: the embedding gated and added. -/
def lastT (H E G : FVec Ideal S32768x1024 .f32) : FVec Ideal S32768x1024 .f32 := addf H (mulf (sigmT G) E)

/-- The reference's result, of its arguments. -/
def refT (a : Args) : FVec Ideal S32768x1024 .f32 :=
  let H := addf (F := Ideal) (φ := .f32) a.x (normT (mixT (yaT a.oa a.ga a.again) (extf (F := Ideal) (φ := .bf16) .f32 a.yl bitsLt_bf16_f32) a.wout) a.pgain)
  lastT H (normT (pleT a.p a.wple) a.egain) (gateT H a.wgate a.bgate)

/-- The twelve arguments. -/
def rargs (m : (ℓ : Loc nD τ sig) → Buf (Elt Ideal) ℓ) (c : Dev nD) : Args where
  oa := m ((c.tc : Thread nD τ).loc main_arg0)
  ga := m ((c.tc : Thread nD τ).loc main_arg1)
  yl := m ((c.tc : Thread nD τ).loc main_arg2)
  x := m ((c.tc : Thread nD τ).loc main_arg3)
  p := m ((c.tc : Thread nD τ).loc main_arg4)
  again := m ((c.tc : Thread nD τ).loc main_arg5)
  wout := m ((c.tc : Thread nD τ).loc main_arg6)
  pgain := m ((c.tc : Thread nD τ).loc main_arg7)
  wple := m ((c.tc : Thread nD τ).loc main_arg8)
  egain := m ((c.tc : Thread nD τ).loc main_arg9)
  wgate := m ((c.tc : Thread nD τ).loc main_arg10)
  bgate := m ((c.tc : Thread nD τ).loc main_arg11)

theorem res_eq (m : (ℓ : Loc nD τ sig) → Buf (Elt Ideal) ℓ) (c : Dev nD) : Value.res_out0 m c = refT (rargs m c) := rfl

/-! ## Its parts, at an index -/

variable (r : Fin 32768) (j : Fin 1024)

theorem one_eq : Ideal.ofBits .f32 0x3F800000#32 = 1 := by
  rw [show Ideal.ofBits .f32 0x3F800000#32 = ((1 : ℝ) : EReal) by
    simp [Ideal.ofBits, Ideal.ieee]
    rw [← EReal.coe_mul]; norm_num]
  rfl

theorem vecT_apply (v : FVec Ideal S1024 .f32) : vecT v (ix2 r j) = vec v j := by
  pointwise [vecT]
  rfl

theorem normT_apply (X : FVec Ideal S32768x1024 .f32) (v : FVec Ideal S1024 .f32) : normT X v (ix2 r j) = norm (row X r) (vec v) j := by
  pointwise [normT, vecT]
  rfl

theorem sigmT_apply (X : FVec Ideal S32768x1024 .f32) : sigmT X (ix2 r j) = sigm (row X r j) := by
  unfold sigm
  rw [← one_eq]
  pointwise [sigmT]
  rfl

theorem yaT_apply (oa ga : FVec Ideal S32768x1024 .bf16) (again : FVec Ideal S1024 .f32) :
    yaT oa ga again (ix2 r j) = norm (row oa r) (vec again) j * (row ga r j * sigm (row ga r j)) :=
  congrArg₂ (· * ·) (normT_apply r j _ _) (congrArg _ (sigmT_apply r j _))

theorem pleT_apply (p : FVec Ideal S32768x256 .f32) (W : FVec Ideal S256x1024 .f32) :
    pleT p W (ix2 r j) = ∑ k : Fin 256, row p r k * row W k j := by
  pointwise [pleT]
  rfl

theorem gateT_apply (X : FVec Ideal S32768x1024 .f32) (W : FVec Ideal S1024x1024 .f32) (b : FVec Ideal S1024 .f32) :
    gateT X W b (ix2 r j) = ∑ k : Fin 1024, row X r k * row W k j + vec b j := by
  pointwise [gateT, vecT]
  rfl

theorem mixT_apply (Y Z : FVec Ideal S32768x1024 .f32) (W : FVec Ideal S2048x1024 .f32) :
    mixT Y Z W (ix2 r j) = ∑ k : Fin 1024, row Y r k * row W ⟨k.val, by omega⟩ j + ∑ k : Fin 1024, row Z r k * row W ⟨1024 + k.val, by omega⟩ j := by
  unfold mixT
  generalize hC : concatenate S32768x2048 1 [⟨S32768x1024, Y⟩, ⟨S32768x1024, Z⟩] concatenates_S32768x1024_S32768x1024_S32768x2048_d1 = C
  have h1 : ∀ k : Fin 1024, C (ix2 r ⟨k.val, by omega⟩) = row Y r k := by
    intro k
    rw [← hC]
    pointwise
    rfl
  have h2 : ∀ k : Fin 1024, C (ix2 r ⟨1024 + k.val, by omega⟩) = row Z r k := by
    intro k
    rw [← hC]
    pointwise
    rfl
  have hd : Host.dotGeneral dot_S32768x2048_S2048x1024_S32768x1024_1_0_0_1_n_n none C W (ix2 r j) = ∑ k : Fin 2048, C (ix2 r k) * W (ix2 k j) := by
    pointwise
  rw [hd]
  refine (Fin.sum_univ_add (a := 1024) (b := 1024) fun k => C (ix2 r k) * W (ix2 k j)).trans ?_
  exact congrArg₂ (· + ·) (Finset.sum_congr rfl fun k _ => congrArg (· * _) (h1 k)) (Finset.sum_congr rfl fun k _ => congrArg (· * _) (h2 k))

/-- The reference's result is the result of its arguments. -/
theorem refT_eq (a : Args) : refT a = result a := by
  funext i
  obtain ⟨r, j, rfl⟩ : ∃ (r : Fin 32768) (j : Fin 1024), i = ix2 r j := ⟨i 0, i 1, by funext a; fin_cases a <;> rfl⟩
  have hmix : row (mixT (yaT a.oa a.ga a.again) (extf (F := Ideal) (φ := .bf16) .f32 a.yl bitsLt_bf16_f32) a.wout) r
      = mix a.wts (row a.oa r) (row a.ga r) (row a.yl r) := by
    funext j
    refine (mixT_apply r j _ _ _).trans ?_
    have hya : row (yaT a.oa a.ga a.again) r = ya a.wts (row a.oa r) (row a.ga r) := funext fun k => yaT_apply r k _ _ _
    rw [hya]
    rfl
  have hH : row (addf (F := Ideal) (φ := .f32) a.x (normT (mixT (yaT a.oa a.ga a.again) (extf (F := Ideal) (φ := .bf16) .f32 a.yl bitsLt_bf16_f32) a.wout) a.pgain)) r
      = resid a.wts (row a.oa r) (row a.ga r) (row a.yl r) (row a.x r) := by
    funext j
    refine congrArg (a.x (ix2 r j) + ·) ((normT_apply r j _ _).trans ?_)
    rw [hmix]
    rfl
  have hE : row (normT (pleT a.p a.wple) a.egain) r = emb a.wts (row a.p r) := by
    funext j
    refine (normT_apply r j _ _).trans ?_
    rw [show row (pleT a.p a.wple) r = fun j => ∑ k : Fin 256, row a.p r k * row a.wple k j from funext fun j => pleT_apply r j _ _]
    rfl
  refine congrArg₂ (· + ·) (congrFun hH j) (congrArg₂ (· * ·) ((sigmT_apply r j _).trans (congrArg sigm ((gateT_apply r j _ _ _).trans ?_))) (congrFun hE j))
  rw [hH]
  rfl

end Cert.Out

end
-- ==== Proof.ProjSpec.lean ====
/- The input projection as a function of the arguments: the normed rows times the columns of one weight, the queries'
   columns scaled. -/
module

public import proofs.«01_k».proof.Proof.OutSpec

@[expose] public section

noncomputable section

namespace Cert.Proj

open Idealize.ShloMosaic
open Cert.Out (norm row vec Row)

/-- The arguments that the three results depend on. -/
structure Args where
  x : (⟨2, ![32768, 1024]⟩ : Shape).Idx → EReal
  w : (⟨2, ![1024, 6152]⟩ : Shape).Idx → EReal
  gain : (⟨1, ![1024]⟩ : Shape).Idx → EReal

/-- What the queries are multiplied by: the softmax scale, for logits to the base 2. -/
def scale : EReal := (((Real.sqrt 128 * Real.log 2)⁻¹ : ℝ) : EReal)

/-- A row, normed, times a column. -/
def proj (f g : Row) (w : Fin 1024 → EReal) : EReal := ∑ k : Fin 1024, norm f g k * w k

variable (a : Args)

/-- A row of the input, normed, times a column of the weight. -/
def at_ (r : Fin 32768) (j : Fin 6152) : EReal := proj (row a.x r) (vec a.gain) fun k => row a.w k j

/-- The queries, keys and values beside each other; -/
def qkv : (⟨2, ![32768, 3072]⟩ : Shape).Idx → EReal := fun i =>
  if (i 1).val < 1024 then at_ a (i 0) ⟨(i 1).val, (i 1).isLt.trans (by decide)⟩ * scale
  else at_ a (i 0) ⟨(i 1).val, (i 1).isLt.trans (by decide)⟩

/-- the attention's gate; -/
def gate : (⟨2, ![32768, 1024]⟩ : Shape).Idx → EReal := fun i =>
  at_ a (i 0) ⟨3080 + (i 1).val, by have h : (i 1).val < 1024 := (i 1).isLt; omega⟩

/-- the forget logits, a row for each head. -/
def forget : (⟨2, ![8, 32768]⟩ : Shape).Idx → EReal := fun i =>
  at_ a (i 1) ⟨3072 + (i 0).val, by have h : (i 0).val < 8 := (i 0).isLt; omega⟩

end Cert.Proj

end
-- ==== Proof.ProjBody.lean ====
/- The input projection's body, read at an index: what it stores into the blocks of its three results. -/
module

public import proofs.«01_k».proof.Proof.ProjSpec
public import proofs.«01_k».proof.Proof.Gen.Kernel3Ideal.Skeleton
public import Idealize.ShloMosaic.Lib.Pointwise

@[expose] public section

noncomputable section

namespace Cert.Proj

open Cert.Kernel3Ideal Cert.Kernel3Ideal.Gen
open Idealize.ShloMosaic
open Cert.Out (norm row vec Row)

variable (r : Fin 1024) (j : Fin 512)

theorem pay3_apply (k : Fin 1024) (x : Vec Ideal S1024x1024 .f32) (g : Vec Ideal S1x1024 .f32) :
    k0_pay3 (F := Ideal) x g (ix2 r k) = norm (row x r) (row g 0) k := by
  pointwise [k0_pay3]
  rfl

theorem scale_eq : (Named.named κ "q_scale" 0x3E0293EE#32 : Ideal .f32) = scale := IdealRules.named_const.ideal_named_scalar _ _ _ _ rfl

theorem pay17_apply (z : FVec Ideal S1024x1024 .bf16) (u : Vec Ideal S1024x512 .bf16) :
    k0_pay17 (F := Ideal) z u (ix2 r j) = (∑ k : Fin 1024, z (ix2 r k) * u (ix2 k j)) * scale := by
  rw [← scale_eq]
  pointwise [k0_pay17]

theorem pay129_apply (z : FVec Ideal S1024x1024 .bf16) (u : Vec Ideal S1024x512 .bf16) :
    k0_pay129 (F := Ideal) z u (ix2 r j) = ∑ k : Fin 1024, z (ix2 r k) * u (ix2 k j) := by
  pointwise [k0_pay129]

theorem pay460_apply (z : FVec Ideal S1024x1024 .bf16) (u : Vec Ideal S1024x512 .bf16) :
    k0_pay460 (F := Ideal) z (k0_pay459 u) (ix2 r j) = ∑ k : Fin 1024, z (ix2 r k) * u (ix2 k j) := by
  pointwise [k0_pay460, k0_pay459]

theorem pay1109_apply (h : Fin 8) (z : FVec Ideal S1024x1024 .bf16) (u : Vec Ideal S1024x128 .bf16) :
    k0_pay1109 (F := Ideal) z u (ix2 h r) = ∑ k : Fin 1024, z (ix2 r k) * u (ix2 k ⟨h.val, by omega⟩) := by
  pointwise [k0_pay1109]

/-! ## The blocks -/

variable (x0 : Vec Ideal S1024x1024 .f32) (x1 : Vec Ideal S1x1024 .f32) (x2 x3 : Vec Ideal S1024x3072 .bf16) (x4 : Vec Ideal S1024x128 .bf16)

/-- A row of the input's block, normed, times a column of a weight. -/
def col {n : ℕ} (u : (⟨2, ![1024, n]⟩ : Shape).Idx → EReal) (r : Fin 1024) (c : Fin n) : EReal := proj (row x0 r) (row x1 0) fun k => row u k c

/-- The queries, keys and values that a point leaves; -/
def qkvB : S1024x3072.Idx → EReal := fun y =>
  if (y 1).val < 1024 then col x0 x1 x2 (y 0) (y 1) * scale else col x0 x1 x2 (y 0) (y 1)

/-- the gate; -/
def gateB : S1024x1024.Idx → EReal := fun y =>
  col x0 x1 x3 (y 0) ⟨(y 1).val, (y 1).isLt.trans (by decide)⟩

/-- the forget logits. -/
def forgetB : S8x1024.Idx → EReal := fun y =>
  col x0 x1 x4 (y 1) ⟨(y 0).val, (y 0).isLt.trans (by decide)⟩

/-- The columns of a weight from `o` on, loaded. -/
theorem ld_cols {e : EltTy} {n w : ℕ} (o : ℕ) (h : o + w ≤ n) (inb) (X : (⟨2, ![1024, n]⟩ : Shape).Idx → Elt Ideal e) (k : Fin 1024) (j : Fin w) :
    View.ld X (Rect.unit (s := ⟨2, ![1024, n]⟩) ![0, o] ![1024, w] inb) (ix2 k j) = X (ix2 k ⟨o + j.val, by omega⟩) := by
  refine congrArg X (funext fun a => ?_)
  fin_cases a
  · exact Fin.ext (by show 0 + 1 * k.val = k.val; omega)
  · exact Fin.ext (by show o + 1 * j.val = o + j.val; omega)

/-- A product with those columns is the block's. -/
theorem dot_cols {n : ℕ} (o : ℕ) (h : o + 512 ≤ n) (inb) (X : (⟨2, ![1024, n]⟩ : Shape).Idx → EReal) :
    ∑ k : Fin 1024, k0_pay3 (F := Ideal) x0 x1 (ix2 r k) * View.ld (Val := Elt Ideal) (e' := .bf16) X (Rect.unit (s := ⟨2, ![1024, n]⟩) ![0, o] ![1024, 512] inb) (ix2 k j)
      = col x0 x1 X r ⟨o + j.val, by omega⟩ :=
  Finset.sum_congr rfl fun k _ => congrArg₂ (· * ·) (pay3_apply r k x0 x1) (ld_cols (e := .bf16) o h inb X k j)

theorem emb_cols {n m w : ℕ} (o : ℕ) (inb) (r : Fin m) (j : Fin w) (h : o + w ≤ n) :
    (Rect.unit (s := ⟨2, ![m, n]⟩) ![0, o] ![m, w] inb).emb (ix2 r j) = ix2 r ⟨o + j.val, by omega⟩ := by
  funext a
  fin_cases a
  · exact Fin.ext (by rw [Rect.emb_apply]; show 0 + 1 * r.val = r.val; omega)
  · exact Fin.ext (by rw [Rect.emb_apply]; show o + 1 * j.val = o + j.val; omega)

/-- A piece of the queries. -/
theorem piece_q (o : ℕ) (h : o + 512 ≤ 1024) (inb) (x : S1024x512.Idx) :
    k0_pay17 (F := Ideal) (k0_pay3 x0 x1) (View.ld (Val := Elt Ideal) (e' := .bf16) x2 (Rect.unit (s := S1024x3072) ![0, o] ![1024, 512] inb)) x
      = qkvB x0 x1 x2 ((Rect.unit (s := S1024x3072) ![0, o] ![1024, 512] inb).emb x) := by
  obtain ⟨r, j, rfl⟩ : ∃ (r : Fin 1024) (j : Fin 512), x = ix2 r j := ⟨x 0, x 1, by funext a; fin_cases a <;> rfl⟩
  rw [pay17_apply, emb_cols o inb r j (by omega)]
  refine Eq.trans (congrArg (· * scale) (dot_cols r j x0 x1 o (by omega) inb x2)) ?_
  exact (if_pos (show o + j.val < 1024 by omega)).symm

/-- A piece of the keys or the values. -/
theorem piece_kv (o : ℕ) (h : o + 512 ≤ 3072) (h' : 1024 ≤ o) (inb) (x : S1024x512.Idx) :
    k0_pay129 (F := Ideal) (k0_pay3 x0 x1) (View.ld (Val := Elt Ideal) (e' := .bf16) x2 (Rect.unit (s := S1024x3072) ![0, o] ![1024, 512] inb)) x
      = qkvB x0 x1 x2 ((Rect.unit (s := S1024x3072) ![0, o] ![1024, 512] inb).emb x) := by
  obtain ⟨r, j, rfl⟩ : ∃ (r : Fin 1024) (j : Fin 512), x = ix2 r j := ⟨x 0, x 1, by funext a; fin_cases a <;> rfl⟩
  rw [pay129_apply, emb_cols o inb r j h]
  refine Eq.trans (dot_cols r j x0 x1 o h inb x2) ?_
  exact (if_neg (show ¬o + j.val < 1024 by omega)).symm

/-- A piece of the gate. -/
theorem piece_gate (o : ℕ) (h : o + 512 ≤ 1024) (inb inb') (x : S1024x512.Idx) :
    k0_pay129 (F := Ideal) (k0_pay3 x0 x1) (View.ld (Val := Elt Ideal) (e' := .bf16) x3 (Rect.unit (s := S1024x3072) ![0, o] ![1024, 512] inb)) x
      = gateB x0 x1 x3 ((Rect.unit (s := S1024x1024) ![0, o] ![1024, 512] inb').emb x) := by
  obtain ⟨r, j, rfl⟩ : ∃ (r : Fin 1024) (j : Fin 512), x = ix2 r j := ⟨x 0, x 1, by funext a; fin_cases a <;> rfl⟩
  rw [pay129_apply, emb_cols o inb' r j h]
  exact dot_cols r j x0 x1 o (by omega) inb x3

/-- The forget logits, which are stored whole. -/
theorem piece_forget (y : S8x1024.Idx) : k0_pay1109 (F := Ideal) (k0_pay3 x0 x1) x4 y = forgetB x0 x1 x4 y := by
  obtain ⟨h, r, rfl⟩ : ∃ (h : Fin 8) (r : Fin 1024), y = ix2 h r := ⟨y 0, y 1, by funext a; fin_cases a <;> rfl⟩
  rw [pay1109_apply]
  exact Finset.sum_congr rfl fun k _ => congrArg (· * _) (pay3_apply r k x0 x1)

end Cert.Proj

end
-- ==== Proof.ProjPiece.lean ====
/- The pieces that the input projection's body stores, as its run lists them: each is its result's block there. -/
module

public import proofs.«01_k».proof.Proof.ProjBody
public import Idealize.ShloMosaic.Lib.Pipeline.ValueKit

@[expose] public section

noncomputable section

namespace Cert.Proj

open Cert.Kernel3Ideal Cert.Kernel3Ideal.Gen
open Idealize.ShloMosaic

/-- A whole buffer, loaded. -/
theorem load_whole {S : Shape} {e : EltTy} (M : Memref sig .tc .vmem S e) (hM : M.IsWhole) (D : Vec Ideal S e) {off : Fin S.rank → ℕ} (hz : off = fun _ => 0) (inb) :
    View.readAt (Elt Ideal) M.view (Rect.unit (s := S) off S.size inb).toLoadRect (hM.unread D) = D := by
  rw [View.readAt_eq_ld, hM.read_unread, View.ld_unit_zero hz]

theorem zero2 : (![0, 0] : Fin 2 → ℕ) = fun _ => 0 := by
  funext a; fin_cases a <;> rfl

variable (M0 : Memref sig .tc .vmem S1024x1024 .f32) (h0 : M0.IsWhole) (M1 : Memref sig .tc .vmem S1x1024 .f32) (h1 : M1.IsWhole)
  (M2 : Memref sig .tc .vmem S1024x3072 .bf16) (h2 : M2.IsWhole) (M4 : Memref sig .tc .vmem S1024x128 .bf16) (h4 : M4.IsWhole)
  (x0 : Vec Ideal S1024x1024 .f32) (x1 : Vec Ideal S1x1024 .f32) (x2 : Vec Ideal S1024x3072 .bf16) (x4 : Vec Ideal S1024x128 .bf16)

/-- The normed rows, as the run holds them. -/
abbrev normed (inb0 : ∀ a, (![0, 0] : Fin 2 → ℕ) a + S1024x1024.size a ≤ S1024x1024.size a) (inb1 : ∀ a, (![0, 0] : Fin 2 → ℕ) a + S1x1024.size a ≤ S1x1024.size a) : FVec Ideal S1024x1024 .bf16 :=
  k0_pay3 (View.readAt (Elt Ideal) M0.view (Rect.unit (s := S1024x1024) ![0, 0] S1024x1024.size inb0).toLoadRect (h0.unread x0))
    (View.readAt (Elt Ideal) M1.view (Rect.unit (s := S1x1024) ![0, 0] S1x1024.size inb1).toLoadRect (h1.unread x1))

theorem normed_eq (inb0 inb1) : normed M0 h0 M1 h1 x0 x1 inb0 inb1 = k0_pay3 x0 x1 :=
  congrArg₂ k0_pay3 (load_whole M0 h0 x0 zero2 inb0) (load_whole M1 h1 x1 zero2 inb1)

/-- Columns of a weight, as the run holds them. -/
abbrev cols (o : ℕ) (inb : ∀ a, (![0, o] : Fin 2 → ℕ) a + S1024x512.size a ≤ S1024x3072.size a) : Vec Ideal S1024x512 .bf16 :=
  View.readAt (Elt Ideal) M2.view (Rect.unit (s := S1024x3072) ![0, o] S1024x512.size inb).toLoadRect (h2.unread x2)

theorem cols_eq (o : ℕ) (inb) : cols M2 h2 x2 o inb = View.ld (Val := Elt Ideal) (e' := .bf16) x2 (Rect.unit (s := S1024x3072) ![0, o] ![1024, 512] inb) := by
  unfold cols
  rw [View.readAt_eq_ld, h2.read_unread]

theorem run_q (o : ℕ) (h : o + 512 ≤ 1024) (inb0 inb1 inb) (x : S1024x512.Idx) :
    k0_pay17 (F := Ideal) (normed M0 h0 M1 h1 x0 x1 inb0 inb1) (cols M2 h2 x2 o inb) x
      = qkvB x0 x1 x2 ((Rect.unit (s := S1024x3072) ![0, o] S1024x512.size inb).emb x) := by
  rw [normed_eq, cols_eq]
  exact piece_q x0 x1 x2 o h inb x

theorem run_kv (o : ℕ) (h : o + 512 ≤ 3072) (h' : 1024 ≤ o) (inb0 inb1 inb) (x : S1024x512.Idx) :
    k0_pay129 (F := Ideal) (normed M0 h0 M1 h1 x0 x1 inb0 inb1) (cols M2 h2 x2 o inb) x
      = qkvB x0 x1 x2 ((Rect.unit (s := S1024x3072) ![0, o] S1024x512.size inb).emb x) := by
  rw [normed_eq, cols_eq]
  exact piece_kv x0 x1 x2 o h h' inb x

theorem run_gate (o : ℕ) (h : o + 512 ≤ 1024) (inb0 inb1 inb inb') (x : S1024x512.Idx) :
    k0_pay129 (F := Ideal) (normed M0 h0 M1 h1 x0 x1 inb0 inb1) (cols M2 h2 x2 o inb) x
      = gateB x0 x1 x2 ((Rect.unit (s := S1024x1024) ![0, o] S1024x512.size inb').emb x) := by
  rw [normed_eq, cols_eq]
  exact piece_gate x0 x1 x2 o h inb inb' x

theorem run_forget (inb0 inb1 inb4 inb') (x : S8x1024.Idx) :
    k0_pay1109 (F := Ideal) (normed M0 h0 M1 h1 x0 x1 inb0 inb1)
        (View.readAt (Elt Ideal) M4.view (Rect.unit (s := S1024x128) ![0, 0] S1024x128.size inb4).toLoadRect (h4.unread x4)) x
      = forgetB x0 x1 x4 ((Rect.unit (s := S8x1024) ![0, 0] S8x1024.size inb').emb x) := by
  rw [normed_eq, load_whole M4 h4 x4 zero2 inb4, piece_forget]
  refine congrArg (forgetB x0 x1 x4) (funext fun a => Fin.ext ?_)
  fin_cases a
  · show (x 0).val = 0 + 1 * (x 0).val; omega
  · show (x 1).val = 0 + 1 * (x 1).val; omega

end Cert.Proj

end
-- ==== Proof.ProjArray.lean ====
/- The input projection's arrays: the blocks cover each, so it is its result of the arguments. -/
module

public import proofs.«01_k».proof.Proof.ProjPiece
public import proofs.«01_k».proof.Proof.Gen.Kernel3Ideal.Frame
public import Idealize.ShloMosaic.Lib.Pipeline.ValueKit
public import Idealize.ShloMosaic.Lib.IdealHost
public import Idealize.ShloMosaic.Lib.KernelVsHost
public import Idealize.ShloMosaic.Lib.Pipeline.Value
public import Idealize.ShloMosaic.Lib.Pointwise

@[expose] public section

set_option maxRecDepth 16384

noncomputable section

namespace Cert.Proj

open Cert.Kernel3Ideal Cert.Kernel3Ideal.Gen
open Cert.Out (norm row vec Row)
open Idealize.ShloMosaic Idealize.ShloMosaic.TcCoe Idealize.ShloMosaic.Tactic Idealize.ShloMosaic.StableHlo
open Idealize.ShloMosaic.Pipeline (Dat Cfg Window)

variable (m : (ℓ : Loc nD τ sig) → Buf (Elt Ideal) ℓ) (c : Dev nD)

/-- The arguments that the three results depend on. -/
def args : Args where
  x := m ((c : Thread nD τ).loc main_arg0)
  w := m ((c : Thread nD τ).loc main_arg1)
  gain := m ((c : Thread nD τ).loc main_arg2)

/-! ## What the call's weights hold: columns of the arguments' -/

theorem V_v1 : V m c main_v1 = extractStridedSlice S1024x3072 ![0, 0] (args m c).w slices_S1024x6152_S1024x3072_0_0 := by
  unfold V; simp only [hostOps0, hostOps0_1, hostOps0_2, hostOps0_3, hostOps0_4, hostOps0_5, hostOps0_6, List.flatten_cons, List.flatten_nil, List.append_nil, List.cons_append, List.nil_append]; after_results_simp <;> rfl
theorem V_v3 : V m c main_v3 = extractStridedSlice S1024x3072 ![0, 3080] (args m c).w slices_S1024x6152_S1024x3072_0_3080 := by
  unfold V; simp only [hostOps0, hostOps0_1, hostOps0_2, hostOps0_3, hostOps0_4, hostOps0_5, hostOps0_6, List.flatten_cons, List.flatten_nil, List.append_nil, List.cons_append, List.nil_append]; after_results_simp <;> rfl
theorem V_v6 : V m c main_v6 = pad S1024x128 ![0, 0] ![0, 120] ![0, 0] (extractStridedSlice S1024x8 ![0, 3072] (args m c).w slices_S1024x6152_S1024x8_0_3072)
    (sitofp (F := Ideal) .f32 (constantI S_ 32 0#32)) pads_S1024x8_S1024x128_000_01200 h_S_ := by
  unfold V; simp only [hostOps0, hostOps0_1, hostOps0_2, hostOps0_3, hostOps0_4, hostOps0_5, hostOps0_6, List.flatten_cons, List.flatten_nil, List.append_nil, List.cons_append, List.nil_append]; after_results_simp <;> rfl
theorem V_v11 : V m c main_v11 = shapeCast S1x1024 (args m c).gain shapeCasts_S1024_S1x1024 := by
  unfold V; simp only [hostOps0, hostOps0_1, hostOps0_2, hostOps0_3, hostOps0_4, hostOps0_5, hostOps0_6, List.flatten_cons, List.flatten_nil, List.append_nil, List.cons_append, List.nil_append]; after_results_simp <;> rfl

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index14 : ∀ t : Fin cfg0.N, win0_14.index t = ![t.val, 0] := (by decide +kernel : ∀ t : Fin grid0.N, win0_14.index t = ![t.val, 0])
theorem index15 : ∀ t : Fin cfg0.N, win0_15.index t = ![t.val, 0] := (by decide +kernel : ∀ t : Fin grid0.N, win0_15.index t = ![t.val, 0])
theorem index17 : ∀ t : Fin cfg0.N, win0_17.index t = ![0, t.val] := (by decide +kernel : ∀ t : Fin grid0.N, win0_17.index t = ![0, t.val])

theorem point_lt (t : Fin cfg0.N) : t.val < 32 := t.isLt

variable (t : Fin cfg0.N)

/-- The array's row that a block's row is. -/
def rowAt (r : Fin 1024) : Fin 32768 := ⟨1024 * t.val + r.val, by have := point_lt t; omega⟩

theorem iblk0 (r : Fin 1024) : row (n := 1024) (k := 1024) (iblk m c 0 t) r = row (args m c).x (rowAt t r) := by
  funext j
  unfold row rowAt
  blk_simp [iblk]
  refine congrArg (args m c).x ?_
  blk_ext [index0]

theorem iblk1 : row (n := 1) (k := 1024) (iblk m c 1 t) 0 = vec (args m c).gain := by
  funext j
  unfold row vec
  blk_simp [iblk]
  refine Eq.trans (congrArg (V m c main_v11 : (⟨2, ![1, 1024]⟩ : Shape).Idx → EReal) (?_ : _ = ix2 0 j)) ((congrFun (V_v11 m c) (ix2 0 j)).trans ?_)
  · blk_ext [index1]
  · exact Idealize.ShloMosaic.shapeCast_apply _ _ _ (ix1 j) (by
      rw [Shape.rowMajor_val_two, Shape.rowMajor_val_one]
      show j.val = 0 * 1024 + j.val
      omega)

theorem iblk2 (k : Fin 1024) (j : Fin 3072) : (iblk m c 2 t : (⟨2, ![1024, 3072]⟩ : Shape).Idx → EReal) (ix2 k j) = row (args m c).w k ⟨j.val, by omega⟩ := by
  unfold row
  blk_simp [iblk]
  refine Eq.trans (congrArg (V m c main_v1 : (⟨2, ![1024, 3072]⟩ : Shape).Idx → EReal) (?_ : _ = ix2 k j)) ((congrFun (V_v1 m c) (ix2 k j)).trans ?_)
  · blk_ext [index2]
  · pointwise

theorem iblk3 (k : Fin 1024) (j : Fin 3072) : (iblk m c 3 t : (⟨2, ![1024, 3072]⟩ : Shape).Idx → EReal) (ix2 k j) = row (args m c).w k ⟨3080 + j.val, by omega⟩ := by
  unfold row
  blk_simp [iblk]
  refine Eq.trans (congrArg (V m c main_v3 : (⟨2, ![1024, 3072]⟩ : Shape).Idx → EReal) (?_ : _ = ix2 k j)) ((congrFun (V_v3 m c) (ix2 k j)).trans ?_)
  · blk_ext [index3]
  · pointwise

theorem iblk4 (k : Fin 1024) (h : Fin 8) : (iblk m c 4 t : (⟨2, ![1024, 128]⟩ : Shape).Idx → EReal) (ix2 k ⟨h.val, by omega⟩) = row (args m c).w k ⟨3072 + h.val, by omega⟩ := by
  unfold row
  blk_simp [iblk]
  refine Eq.trans (congrArg (V m c main_v6 : (⟨2, ![1024, 128]⟩ : Shape).Idx → EReal) (?_ : _ = ix2 k ⟨h.val, by omega⟩))
    ((congrFun (V_v6 m c) (ix2 k ⟨h.val, by omega⟩)).trans ?_)
  · blk_ext [index4]
  · pointwise

/-! ## What a point leaves in its blocks -/

theorem left14 : (outsAt0 m c t.val t.isLt).1 = qkvB (iblk m c 0 t) (iblk m c 1 t) (iblk m c 2 t) := by
  have hq := fun o h => run_q (ms0_0 t) (hs0_0 t) (ms0_1 t) (hs0_1 t) (ms0_2 t) (hs0_2 t) (iblk m c 0 t) (iblk m c 1 t) (iblk m c 2 t) o h
  have hkv := fun o h h' => run_kv (ms0_0 t) (hs0_0 t) (ms0_1 t) (hs0_1 t) (ms0_2 t) (hs0_2 t) (iblk m c 0 t) (iblk m c 1 t) (iblk m c 2 t) o h h'
  funext y
  by_cases h0 : t.val % 4 = 0
  · rw [outsAt0_A m c t h0]
    dsimp only
    unfold out0_A_14
    refine View.read_writes_apply_of_pieces _ _ _ _ ?_ y (cover0_A_14 (F := Ideal) ..)
    refine List.forall_mem_cons.2 ⟨?_, List.forall_mem_cons.2 ⟨?_, List.forall_mem_cons.2 ⟨?_, List.forall_mem_cons.2 ⟨?_,
      List.forall_mem_cons.2 ⟨?_, List.forall_mem_cons.2 ⟨?_, fun _ h => absurd h List.not_mem_nil⟩⟩⟩⟩⟩⟩
    · exact hkv 2560 (by decide) (by decide) _ _ _
    · exact hkv 2048 (by decide) (by decide) _ _ _
    · exact hkv 1536 (by decide) (by decide) _ _ _
    · exact hkv 1024 (by decide) (by decide) _ _ _
    · exact hq 512 (by decide) _ _ _
    · exact hq 0 (by decide) _ _ _
  · rw [outsAt0_B m c t h0]
    dsimp only
    unfold out0_B_14
    refine View.read_writes_apply_of_pieces _ _ _ _ ?_ y (cover0_B_14 (F := Ideal) ..)
    refine List.forall_mem_cons.2 ⟨?_, List.forall_mem_cons.2 ⟨?_, List.forall_mem_cons.2 ⟨?_, List.forall_mem_cons.2 ⟨?_,
      List.forall_mem_cons.2 ⟨?_, List.forall_mem_cons.2 ⟨?_, fun _ h => absurd h List.not_mem_nil⟩⟩⟩⟩⟩⟩
    · exact hkv 2560 (by decide) (by decide) _ _ _
    · exact hkv 2048 (by decide) (by decide) _ _ _
    · exact hkv 1536 (by decide) (by decide) _ _ _
    · exact hkv 1024 (by decide) (by decide) _ _ _
    · exact hq 512 (by decide) _ _ _
    · exact hq 0 (by decide) _ _ _

theorem left15 : (outsAt0 m c t.val t.isLt).2.1 = gateB (iblk m c 0 t) (iblk m c 1 t) (iblk m c 3 t) := by
  have hg := fun o h i0 i1 i => run_gate (ms0_0 t) (hs0_0 t) (ms0_1 t) (hs0_1 t) (ms0_3 t) (hs0_3 t) (iblk m c 0 t) (iblk m c 1 t) (iblk m c 3 t) o h i0 i1 i
  funext y
  by_cases h0 : t.val % 4 = 0
  · rw [outsAt0_A m c t h0]
    dsimp only
    unfold out0_A_15
    refine View.read_writes_apply_of_pieces _ _ _ _ ?_ y (cover0_A_15 (F := Ideal) ..)
    refine List.forall_mem_cons.2 ⟨?_, List.forall_mem_cons.2 ⟨?_, fun _ h => absurd h List.not_mem_nil⟩⟩
    · exact hg 512 (by decide) _ _ _ inb_S1024x1024_S1024x512_0_512
    · exact hg 0 (by decide) _ _ _ inb_S1024x1024_S1024x512_0_0
  · rw [outsAt0_B m c t h0]
    dsimp only
    unfold out0_B_15
    refine View.read_writes_apply_of_pieces _ _ _ _ ?_ y (cover0_B_15 (F := Ideal) ..)
    refine List.forall_mem_cons.2 ⟨?_, List.forall_mem_cons.2 ⟨?_, fun _ h => absurd h List.not_mem_nil⟩⟩
    · exact hg 512 (by decide) _ _ _ inb_S1024x1024_S1024x512_0_512
    · exact hg 0 (by decide) _ _ _ inb_S1024x1024_S1024x512_0_0

theorem left17 : (outsAt0 m c t.val t.isLt).2.2.2.1 = forgetB (iblk m c 0 t) (iblk m c 1 t) (iblk m c 4 t) := by
  have hf := run_forget (ms0_0 t) (hs0_0 t) (ms0_1 t) (hs0_1 t) (ms0_4 t) (hs0_4 t) (iblk m c 0 t) (iblk m c 1 t) (iblk m c 4 t)
  funext y
  by_cases h0 : t.val % 4 = 0
  · rw [outsAt0_A m c t h0]
    dsimp only
    unfold out0_A_17
    refine View.read_writes_apply_of_pieces _ _ _ _ ?_ y (cover0_A_17 (F := Ideal) ..)
    exact List.forall_mem_cons.2 ⟨hf _ _ _ inb_S8x1024_S8x1024_0_0, fun _ h => absurd h List.not_mem_nil⟩
  · rw [outsAt0_B m c t h0]
    dsimp only
    unfold out0_B_17
    refine View.read_writes_apply_of_pieces _ _ _ _ ?_ y (cover0_B_17 (F := Ideal) ..)
    exact List.forall_mem_cons.2 ⟨hf _ _ _ inb_S8x1024_S8x1024_0_0, fun _ h => absurd h List.not_mem_nil⟩

/-- A row of the point's block times a column that its weight's block holds. -/
theorem col_eq {n : ℕ} (u : (⟨2, ![1024, n]⟩ : Shape).Idx → EReal) (r : Fin 1024) (j : Fin n) (J : Fin 6152) (h : ∀ k, u (ix2 k j) = row (args m c).w k J) :
    col (iblk m c 0 t) (iblk m c 1 t) u r j = at_ (args m c) (rowAt t r) J := by
  unfold col at_
  rw [iblk0 m c t r, iblk1 m c t]
  exact congrArg (proj _ _) (funext h)

/-! ## The arrays -/

theorem arr14 (c : Dev nD) : (dats m 0 c).arrAt 14 cfg0.N = qkv (args m c) := by
  refine (dats m 0 c).arrAt_eq_of_covers 14 _ (by decide +kernel) fun t hf y => ?_
  blk_simp
  rw [after0_14, left14]
  have hy : (y 0).val < 1024 := (y 0).isLt
  have hy' : (y 1).val < 3072 := (y 1).isLt
  have e0 : ((cfg0.win 14).blk t).view.emb y 0 = rowAt t ⟨(y 0).val, hy⟩ := by
    apply Fin.ext
    blk_simp [index14]
    show t.val * 1024 + (y 0).val = 1024 * t.val + (y 0).val
    omega
  have e1 : ((cfg0.win 14).blk t).view.emb y 1 = y 1 := by
    apply Fin.ext
    blk_simp [index14]
  have e := col_eq m c t (iblk m c 2 t) (y 0) (y 1) ⟨(y 1).val, by omega⟩ fun k => iblk2 m c t k (y 1)
  refine Eq.trans ?_ (congrArg₂ (fun (r : Fin 32768) (j : Fin 3072) => qkv (args m c) (ix2 r j)) e0 e1).symm
  show (if (y 1).val < 1024 then _ else _) = if (y 1).val < 1024 then _ else _
  rw [e]
  rfl

theorem arr15 (c : Dev nD) : (dats m 0 c).arrAt 15 cfg0.N = gate (args m c) := by
  refine (dats m 0 c).arrAt_eq_of_covers 15 _ (by decide +kernel) fun t hf y => ?_
  blk_simp
  rw [after0_15, left15]
  have hy : (y 0).val < 1024 := (y 0).isLt
  have hy' : (y 1).val < 1024 := (y 1).isLt
  have e0 : ((cfg0.win 15).blk t).view.emb y 0 = rowAt t ⟨(y 0).val, hy⟩ := by
    apply Fin.ext
    blk_simp [index15]
    show t.val * 1024 + (y 0).val = 1024 * t.val + (y 0).val
    omega
  have e1 : ((cfg0.win 15).blk t).view.emb y 1 = y 1 := by
    apply Fin.ext
    blk_simp [index15]
  refine Eq.trans ?_ (congrArg₂ (fun (r : Fin 32768) (j : Fin 1024) => gate (args m c) (ix2 r j)) e0 e1).symm
  exact col_eq m c t (iblk m c 3 t) (y 0) ⟨(y 1).val, by omega⟩ ⟨3080 + (y 1).val, by omega⟩ fun k => iblk3 m c t k ⟨(y 1).val, by omega⟩

theorem arr17 (c : Dev nD) : (dats m 0 c).arrAt 17 cfg0.N = forget (args m c) := by
  refine (dats m 0 c).arrAt_eq_of_covers 17 _ (by decide +kernel) fun t hf y => ?_
  blk_simp
  rw [after0_17, left17]
  have hy : (y 0).val < 8 := (y 0).isLt
  have hy' : (y 1).val < 1024 := (y 1).isLt
  have e0 : ((cfg0.win 17).blk t).view.emb y 0 = y 0 := by
    apply Fin.ext
    blk_simp [index17]
  have e1 : ((cfg0.win 17).blk t).view.emb y 1 = rowAt t ⟨(y 1).val, hy'⟩ := by
    apply Fin.ext
    blk_simp [index17]
    show t.val * 1024 + (y 1).val = 1024 * t.val + (y 1).val
    omega
  refine Eq.trans ?_ (congrArg₂ (fun (h : Fin 8) (r : Fin 32768) => forget (args m c) (ix2 h r)) e0 e1).symm
  exact col_eq m c t (iblk m c 4 t) (y 1) ⟨(y 0).val, by omega⟩ ⟨3072 + (y 0).val, by omega⟩ fun k => iblk4 m c t k (y 0)

end Cert.Proj

end
-- ==== Proof.ProjRef.lean ====
/- The input projection's reference, read at an index. -/
module

public import proofs.«01_k».proof.Proof.ProjSpec
public import proofs.«01_k».proof.Proof.Gen.Reference3Ideal.Run
public import Idealize.ShloMosaic.Lib.Pointwise

@[expose] public section

set_option maxRecDepth 8192

noncomputable section

namespace Cert.Proj

open Cert.Reference3Ideal Cert.Reference3Ideal.Gen
open Idealize.ShloMosaic
open Cert.Out (norm row vec Row)

/-- The rows normed, -/
def normT (X : FVec Ideal S32768x1024 .f32) (v : FVec Ideal S1024 .f32) : FVec Ideal S32768x1024 .f32 :=
  mulf (mulf X (broadcastInDim S32768x1024 ![0, 1] bcast_S32768x1_S32768x1024_0_1 (Host.rsqrt (addf
    (Host.divf (broadcastInDim S32768x1 ![0] bcast_S32768_S32768x1_0 (Host.reduceAdd (mulf X X) (constant S_ .f32 0x00000000#32)
      reducesTo_S32768x1024_S32768_d1 h_S_)) (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 v))

/-- and projected. -/
def projT (X : FVec Ideal S32768x1024 .f32) (v : FVec Ideal S1024 .f32) (W : FVec Ideal S1024x6152 .f32) : FVec Ideal S32768x6152 .f32 :=
  Host.dotGeneral dot_S32768x1024_S1024x6152_S32768x6152_1_0_0_1_n_n none (normT X v) W

/-- What the queries are divided by. -/
def scaleT : FVec Ideal S32768x1024 .f32 :=
  broadcastInDim S32768x1024 ![] bcast_S_S32768x1024 (mulf (Host.sqrt (constant S_ .f32 0x43000000#32)) (Host.log (constant S_ .f32 0x40000000#32)))

/-- The three results, of the projection. -/
def qkvT (Z : FVec Ideal S32768x6152 .f32) : FVec Ideal S32768x3072 .bf16 :=
  truncf .bf16 (concatenate S32768x3072 1
    [⟨S32768x1024, (Host.divf (extractStridedSlice S32768x1024 ![0, 0] Z slices_S32768x6152_S32768x1024_0_0) scaleT : FVec Ideal S32768x1024 .f32)⟩,
     ⟨S32768x1024, (extractStridedSlice S32768x1024 ![0, 1024] Z slices_S32768x6152_S32768x1024_0_1024 : FVec Ideal S32768x1024 .f32)⟩,
     ⟨S32768x1024, (extractStridedSlice S32768x1024 ![0, 2048] Z slices_S32768x6152_S32768x1024_0_2048 : FVec Ideal S32768x1024 .f32)⟩]
    concatenates_S32768x1024_S32768x1024_S32768x1024_S32768x3072_d1) bitsLt_bf16_f32
def gateT (Z : FVec Ideal S32768x6152 .f32) : FVec Ideal S32768x1024 .bf16 :=
  truncf .bf16 (extractStridedSlice S32768x1024 ![0, 3080] Z slices_S32768x6152_S32768x1024_0_3080) bitsLt_bf16_f32
def forgetT (Z : FVec Ideal S32768x6152 .f32) : FVec Ideal S8x32768 .f32 :=
  transpose S8x32768 [1, 0] (extractStridedSlice S32768x8 ![0, 3072] Z slices_S32768x6152_S32768x8_0_3072) transposes_S32768x8_S8x32768_1_0

variable (r : Fin 32768)

theorem normT_apply (j : Fin 1024) (X : FVec Ideal S32768x1024 .f32) (v : FVec Ideal S1024 .f32) : normT X v (ix2 r j) = norm (row X r) (vec v) j := by
  pointwise [normT]
  rfl

theorem dot_apply (j : Fin 6152) (Y : FVec Ideal S32768x1024 .f32) (W : FVec Ideal S1024x6152 .f32) :
    Host.dotGeneral dot_S32768x1024_S1024x6152_S32768x6152_1_0_0_1_n_n none Y W (ix2 r j) = ∑ k : Fin 1024, Y (ix2 r k) * W (ix2 k j) := by
  pointwise

theorem projT_apply (j : Fin 6152) (a : Args) : projT a.x a.gain a.w (ix2 r j) = at_ a r j :=
  (dot_apply r j _ _).trans (Finset.sum_congr rfl fun k _ => congrArg (· * a.w (ix2 k j)) (normT_apply r k _ _))

theorem sqrt_128 : Host.sqrt (F := Ideal) (constant S_ .f32 0x43000000#32) ix0 = ((Real.sqrt 128 : ℝ) : EReal) := by
  show Ideal.sqrt (Ideal.ofBits .f32 0x43000000#32) = _
  rw [show Ideal.ofBits .f32 0x43000000#32 = ((128 : ℝ) : EReal) by
    simp [Ideal.ofBits, Ideal.ieee]
    rw [← EReal.coe_mul]; norm_num, Ideal.sqrt_coe, if_neg (by norm_num)]

theorem log_2 : Host.log (F := Ideal) (constant S_ .f32 0x40000000#32) ix0 = ((Real.log 2 : ℝ) : EReal) := by
  show Ideal.log (Ideal.ofBits .f32 0x40000000#32) = _
  rw [show Ideal.ofBits .f32 0x40000000#32 = ((2 : ℝ) : EReal) by
    simp [Ideal.ofBits, Ideal.ieee]
    rw [← EReal.coe_mul]; norm_num, Ideal.log_coe, if_neg (by norm_num)]

theorem scaleT_apply (j : Fin 1024) : scaleT (ix2 r j) = ((Real.sqrt 128 * Real.log 2 : ℝ) : EReal) := by
  unfold scaleT
  rw [EReal.coe_mul, ← sqrt_128, ← log_2]
  pointwise

/-- A number over the root of 128 and the logarithm of 2. -/
theorem div_scale (x : EReal) : Ideal.div x ((Real.sqrt 128 * Real.log 2 : ℝ) : EReal) = x * scale := by
  have h1 : 0 < Real.sqrt 128 := Real.sqrt_pos.mpr (by norm_num)
  have h2 : 0 < Real.log 2 := Real.log_pos (by norm_num)
  have hne : ((Real.sqrt 128 * Real.log 2 : ℝ) : EReal) ≠ 0 := by
    rw [← EReal.coe_zero, Ne, EReal.coe_eq_coe_iff]; positivity
  unfold Ideal.div scale
  rw [if_neg hne, EReal.coe_inv]

variable (a : Args)

theorem gateT_eq : gateT (projT a.x a.gain a.w) = gate a := by
  funext i
  obtain ⟨r, j, rfl⟩ : ∃ (r : Fin 32768) (j : Fin 1024), i = ix2 r j := ⟨i 0, i 1, by funext a; fin_cases a <;> rfl⟩
  refine Eq.trans ?_ (projT_apply r ⟨3080 + j.val, by omega⟩ a)
  pointwise [gateT]

theorem forgetT_eq : forgetT (projT a.x a.gain a.w) = forget a := by
  funext i
  obtain ⟨j, r, rfl⟩ : ∃ (j : Fin 8) (r : Fin 32768), i = ix2 j r := ⟨i 0, i 1, by funext a; fin_cases a <;> rfl⟩
  refine Eq.trans ?_ (projT_apply r ⟨3072 + j.val, by omega⟩ a)
  pointwise [forgetT]

theorem qkvT_q (Z : FVec Ideal S32768x6152 .f32) (j : Fin 3072) (h : j.val < 1024) :
    qkvT Z (ix2 r j) = Z (ix2 r ⟨j.val, by omega⟩) * scale := by
  rw [← div_scale, ← scaleT_apply r ⟨j.val, h⟩]
  pointwise [qkvT]
  rw [dif_pos h]

theorem qkvT_kv (Z : FVec Ideal S32768x6152 .f32) (j : Fin 3072) (h : ¬j.val < 1024) :
    qkvT Z (ix2 r j) = Z (ix2 r ⟨j.val, by omega⟩) := by
  pointwise [qkvT]
  rw [dif_neg h]
  split <;> exact congrArg Z (congrArg (ix2 r) (Fin.ext (by dsimp only; omega)))

theorem qkvT_eq : qkvT (projT a.x a.gain a.w) = qkv a := by
  funext i
  obtain ⟨r, j, rfl⟩ : ∃ (r : Fin 32768) (j : Fin 3072), i = ix2 r j := ⟨i 0, i 1, by funext a; fin_cases a <;> rfl⟩
  by_cases h : j.val < 1024
  · refine (qkvT_q r _ j h).trans ?_
    rw [projT_apply]
    exact (if_pos (c := ((ix2 r j : (⟨2, ![32768, 3072]⟩ : Shape).Idx) 1).val < 1024) h).symm
  · refine (qkvT_kv r _ j h).trans ?_
    rw [projT_apply]
    exact (if_neg (c := ((ix2 r j : (⟨2, ![32768, 3072]⟩ : Shape).Idx) 1).val < 1024) h).symm

/-- The arguments, as the reference's memory holds them. -/
def rargs (m : (ℓ : Loc nD τ sig) → Buf (Elt Ideal) ℓ) (c : Dev nD) : Args where
  x := m ((c.tc : Thread nD τ).loc main_arg0)
  w := m ((c.tc : Thread nD τ).loc main_arg1)
  gain := m ((c.tc : Thread nD τ).loc main_arg2)

end Cert.Proj

end
-- ==== Proof.SumSpec.lean ====
/- The running sums of the log forget gates, as functions of the logits and the bias; a window's sum and its doubling. -/
module

public import Idealize.ShloMosaic.Lib.Pointwise

@[expose] public section

noncomputable section

namespace Cert.Sum

open Idealize.ShloMosaic

/-- The logarithm of the logistic function, as the kernel has it. -/
def lsig (z : EReal) : EReal := min z 0 - Ideal.log1p (Ideal.exp (0 - max z (-z)))

/-- As the reference has it: minus the logarithm of 1 + exp(−z), the larger exponent taken out. -/
def lsig' (z : EReal) : EReal := -(max (-z) 0 + Ideal.log1p (Ideal.exp (-max (-z) (-(-z)))))

theorem log_one : Ideal.log 1 = 0 := by
  rw [← EReal.coe_one, Ideal.log_coe, if_neg (by norm_num), Real.log_one, EReal.coe_zero]

/-- The two are one function, at the infinities too. -/
theorem lsig'_eq (z : EReal) : lsig' z = lsig z := by
  unfold lsig' lsig
  induction z with
  | bot => simp [Ideal.log1p, log_one]
  | top => simp [Ideal.log1p, log_one]
  | coe x =>
    have hm : min (x : EReal) 0 = -(max (-(x : EReal)) 0) := by
      rw [← EReal.coe_neg]
      rcases le_total x 0 with h | h
      · rw [min_eq_left (by exact_mod_cast h), max_eq_left (by exact_mod_cast neg_nonneg.2 h), EReal.coe_neg, neg_neg]
      · rw [min_eq_right (by exact_mod_cast h), max_eq_right (by exact_mod_cast neg_nonpos.2 h), neg_zero]
    have hb : ∃ b : ℝ, Ideal.log1p (Ideal.exp (-max (-(x : EReal)) (x : EReal))) = b := by
      rw [← EReal.coe_neg, ← EReal.coe_strictMono.monotone.map_max, ← EReal.coe_neg, Ideal.exp_coe, Ideal.log1p, ← EReal.coe_one, ← EReal.coe_add, Ideal.log_coe,
        if_neg (by have := Real.exp_pos (-max (-x) x); linarith)]
      exact ⟨_, rfl⟩
    obtain ⟨b, hb⟩ := hb
    rw [neg_neg, zero_sub, max_comm (x : EReal), hb, hm, EReal.neg_add (Or.inr (EReal.coe_ne_top b)) (Or.inr (EReal.coe_ne_bot b))]

/-- The sum of the last `n` entries up to entry `j`. -/
def tail (f : ℕ → EReal) (n j : ℕ) : EReal := ∑ i ∈ Finset.range n, if i ≤ j then f (j - i) else 0

theorem tail_one (f : ℕ → EReal) (j : ℕ) : tail f 1 j = f j := by simp [tail]

/-- A window's sum and the one that ends before it make the sum of twice the length. -/
theorem tail_double (f : ℕ → EReal) (n j : ℕ) : tail f (n + n) j = tail f n j + if n ≤ j then tail f n (j - n) else 0 := by
  unfold tail
  rw [Finset.sum_range_add]
  refine congrArg _ ?_
  by_cases h : n ≤ j
  · rw [if_pos h]
    refine Finset.sum_congr rfl fun i _ => ?_
    rw [show j - (n + i) = j - n - i by omega]
    exact if_congr (by omega) rfl rfl
  · rw [if_neg h]
    exact Finset.sum_eq_zero fun i _ => if_neg (by omega)

/-- The same, the window's entries in their own order. -/
theorem tail_eq (f : ℕ → EReal) (n m j : ℕ) (hm : m + 1 = n) :
    tail f n j = ∑ w : Fin n, if m ≤ j + w.val then f (j + w.val - m) else 0 := by
  unfold tail
  rw [Fin.sum_univ_eq_sum_range (fun w => if m ≤ j + w then f (j + w - m) else 0) n, ← Finset.sum_range_reflect]
  refine Finset.sum_congr rfl fun i hi => ?_
  have := Finset.mem_range.1 hi
  rw [show j - (n - 1 - i) = j + i - m by omega]
  exact if_congr (by omega) rfl rfl

/-- The arguments. -/
structure Args where
  fl : (⟨2, ![8, 32768]⟩ : Shape).Idx → EReal
  b : (⟨1, ![8]⟩ : Shape).Idx → EReal

/-- The log forget gates of a head along a sequence. -/
def gates (a : Args) (h s : Fin 8) : ℕ → EReal := fun k =>
  if hk : k < 4096 then lsig (a.fl (ix2 h ⟨4096 * s.val + k, by omega⟩) + a.b (ix1 h)) else 0

/-- The change to base 2. -/
def base : EReal := (((Real.log 2)⁻¹ : ℝ) : EReal)

/-- The running sums. -/
def sums (a : Args) : (⟨2, ![8, 32768]⟩ : Shape).Idx → EReal := fun i =>
  tail (gates a (i 0) ⟨(i 1).val / 4096, by have : (i 1).val < 32768 := (i 1).isLt; show _ < 8; omega⟩) 4096 ((i 1).val % 4096) * base

end Cert.Sum

end
-- ==== Proof.SumArray.lean ====
/- The running sums' body, read at an index, and the array that its blocks make. -/
module

public import proofs.«01_k».proof.Proof.SumSpec
public import proofs.«01_k».proof.Proof.Gen.Kernel4Ideal.Value
public import Idealize.ShloMosaic.Lib.Pipeline.ValueKit
public import Idealize.ShloMosaic.Lib.IdealHost
public import Idealize.ShloMosaic.Lib.WordCmp
public import Idealize.ShloMosaic.Lib.KernelVsHost
public import Idealize.ShloMosaic.Lib.Pipeline.Value

@[expose] public section

set_option maxRecDepth 16384

noncomputable section

namespace Cert.Sum

open Cert.Kernel4Ideal Cert.Kernel4Ideal.Gen
open Idealize.ShloMosaic Idealize.ShloMosaic.TcCoe Idealize.ShloMosaic.Tactic Idealize.ShloMosaic.StableHlo
open Idealize.ShloMosaic.Pipeline (Dat Cfg Window)

/-! ## The body -/

/-- A doubling step: every entry and the one `n` before it, if there is one. -/
def step (n : ℕ) (v : FVec Ideal S8x4096 .f32) : FVec Ideal S8x4096 .f32 :=
  addf v (select (cmpi .sge (iota .tc S8x4096 32 [1] iota_S8x4096_d1_w32) (broadcast S8x4096 (BitVec.ofNat 32 n))) (dynamicRotate 1 (BitVec.ofNat 32 n) none v rotates_S8x4096_d1)
    (broadcast S8x4096 (Scalar.ofBits .f32 0x00000000#32 : Ideal .f32)))

/-- The log forget gates. -/
def logs (x0 : Vec Ideal S8x4096 .f32) (x1 : Vec Ideal S8x1 .f32) : FVec Ideal S8x4096 .f32 :=
  let z : FVec Ideal S8x4096 .f32 := addf x0 (broadcastTo S8x4096 (shapeCast S8x1 x1 shapeCasts_S8x1_S8x1) broadcasts_S8x1_S8x4096)
  let o : FVec Ideal S8x4096 .f32 := broadcast S8x4096 (Scalar.ofBits .f32 0x00000000#32 : Ideal .f32)
  subf (minimumf z o) (log1p (exp (subf o (absf z))))

variable (x0 : Vec Ideal S8x4096 .f32) (x1 : Vec Ideal S8x1 .f32)

/-- The body's value is twelve steps from the gates. -/
theorem body_eq : k0_pay1 (F := Ideal) (k0_pay5 x0 x1) (k0_pay4 (k0_pay5 x0 x1) (k0_pay2 x0 x1) k0_pay3)
    = mulf (step 2048 (step 1024 (step 512 (step 256 (step 128 (step 64 (step 32 (step 16 (step 8 (step 4
        (step 2 (step 1 (logs x0 x1)))))))))))))
      (broadcast S8x4096 (Named.named κ "log2_e" 0x3FB8AA3B#32 : Ideal .f32)) := rfl

variable (h : Fin 8)

theorem logs_apply (j : Fin 4096) : logs x0 x1 (ix2 h j) = lsig (x0 (ix2 h j) + x1 (ix2 h 0)) := by
  unfold lsig
  pointwise [logs]
  rfl

theorem step_apply (n : ℕ) (hn : n < 4096) (v : FVec Ideal S8x4096 .f32) (j : Fin 4096) :
    step n v (ix2 h j) = v (ix2 h j) + if n ≤ j.val then v (ix2 h ⟨j.val - n, by omega⟩) else 0 := by
  have hj := j.isLt
  have hb : (BitVec.ofNat 32 n).toNat = n := by rw [BitVec.toNat_ofNat, Nat.mod_eq_of_lt (by omega)]
  have hc : IntOp.cmpi .sge (BitVec.ofNat 32 j.val) (BitVec.ofNat 32 n) = 1#1 ↔ n ≤ j.val :=
    WordCmp.cmpi_sge_ofNat_eq_one_iff (by omega) (by omega)
  pointwise [step]
  refine congrArg _ ((if_congr hc rfl rfl).trans ?_)
  by_cases h' : n ≤ j.val
  · rw [if_pos h', if_pos h']
    refine congrArg v (congrArg (ix2 h) (Fin.ext ?_))
    show (j.val + 4096 - (BitVec.ofNat 32 n).toNat % 4096) % 4096 = j.val - n
    rw [hb]
    omega
  · rw [if_neg h', if_neg h']

/-- A step doubles the window. -/
theorem step_tail (f : ℕ → EReal) (n k : ℕ) (hk : k = n + n) (hn : n < 4096) (v : FVec Ideal S8x4096 .f32)
    (hv : ∀ j : Fin 4096, v (ix2 h j) = tail f n j.val) (j : Fin 4096) : step n v (ix2 h j) = tail f k j.val := by
  subst hk
  rw [step_apply h n hn, tail_double, hv]
  refine congrArg _ ?_
  split
  · exact hv _
  · rfl

/-- A block's gates along its row. -/
def gatesB : ℕ → EReal := fun k => if hk : k < 4096 then lsig (x0 (ix2 h ⟨k, hk⟩) + x1 (ix2 h 0)) else 0

theorem base_eq : (Named.named κ "log2_e" 0x3FB8AA3B#32 : Ideal .f32) = base := IdealRules.named_const.ideal_named_scalar _ _ _ _ rfl

/-- What the body computes: the running sums along each row. -/
theorem body_apply (j : Fin 4096) : k0_pay1 (F := Ideal) (k0_pay5 x0 x1) (k0_pay4 (k0_pay5 x0 x1) (k0_pay2 x0 x1) k0_pay3) (ix2 h j)
    = tail (gatesB x0 x1 h) 4096 j.val * base := by
  rw [body_eq, ← base_eq]
  refine congrArg (· * (Named.named κ "log2_e" 0x3FB8AA3B#32 : Ideal .f32)) ?_
  have s0 : ∀ j : Fin 4096, logs x0 x1 (ix2 h j) = tail (gatesB x0 x1 h) 1 j.val := fun j => by
    rw [tail_one, logs_apply]
    unfold gatesB
    rw [dif_pos j.isLt]
  have S := fun n k hk hn v hv => step_tail h (gatesB x0 x1 h) n k hk hn v hv
  exact S 2048 _ rfl (by decide) _ (S 1024 _ rfl (by decide) _ (S 512 _ rfl (by decide) _ (S 256 _ rfl (by decide) _ (S 128 _ rfl (by decide) _
    (S 64 _ rfl (by decide) _ (S 32 _ rfl (by decide) _ (S 16 _ rfl (by decide) _ (S 8 _ rfl (by decide) _ (S 4 _ rfl (by decide) _
    (S 2 _ rfl (by decide) _ (S 1 _ rfl (by decide) _ s0))))))))))) j

/-- The block that a point leaves. -/
theorem block_apply (j : Fin 4096) : out0_2 (F := Ideal) x0 x1 (ix2 h j) = tail (gatesB x0 x1 h) 4096 j.val * base := by
  rw [← body_apply]
  have z : ∀ a : Fin 2, (![0, 0] : Fin 2 → ℕ) a = 0 := by decide
  have z' : (![0, 0] : Fin 2 → ℕ) = fun _ => 0 := funext z
  unfold out0_2
  rw [View.ld_unit_zero z', View.ld_unit_zero z', View.canon_cons_unit_lit _ _ _ z]

/-! ## The array -/

variable (m : (ℓ : Loc nD τ sig) → Buf (Elt Ideal) ℓ) (c : Dev nD)

/-- The two arguments. -/
def args : Args where
  fl := m ((c : Thread nD τ).loc main_arg0)
  b := m ((c : Thread nD τ).loc main_arg1)

/-- The bias as a column. -/
theorem V_v0 : V m c main_v0 = shapeCast S8x1 (args m c).b shapeCasts_S8_S8x1 := by
  unfold V; after_results_simp <;> rfl

theorem index0 : ∀ t : Fin cfg0.N, win0_0.index t = ![0, (grid0.coords t 0).val] :=
  (by decide +kernel : ∀ t : Fin grid0.N, win0_0.index t = ![0, (grid0.coords t 0).val])
theorem index1 : ∀ t : Fin cfg0.N, win0_1.index t = ![0, 0] := (by decide +kernel : ∀ t : Fin grid0.N, win0_1.index t = ![0, 0])
theorem index2 : ∀ t : Fin cfg0.N, win0_2.index t = ![0, (grid0.coords t 0).val] :=
  (by decide +kernel : ∀ t : Fin grid0.N, win0_2.index t = ![0, (grid0.coords t 0).val])

theorem coord_lt (t : Fin cfg0.N) : (grid0.coords t 0).val < 8 := (grid0.coords t 0).isLt

variable (t : Fin cfg0.N)

/-- The sequence that a point works on. -/
def seqAt : Fin 8 := ⟨(grid0.coords t 0).val, coord_lt t⟩

theorem iblk0 (j : Fin 4096) : (iblk m c 0 t : (⟨2, ![8, 4096]⟩ : Shape).Idx → EReal) (ix2 h j)
    = (args m c).fl (ix2 h ⟨4096 * (seqAt t).val + j.val, by have := coord_lt t; unfold seqAt; omega⟩) := by
  unfold seqAt
  blk_simp [iblk]
  refine congrArg (args m c).fl ?_
  blk_ext [index0]

theorem iblk1 : (iblk m c 1 t : (⟨2, ![8, 1]⟩ : Shape).Idx → EReal) (ix2 h 0) = (args m c).b (ix1 h) := by
  blk_simp [iblk]
  refine Eq.trans (congrArg (V m c main_v0 : (⟨2, ![8, 1]⟩ : Shape).Idx → EReal) (?_ : _ = ix2 h 0)) ((congrFun (V_v0 m c) _).trans ?_)
  · blk_ext [index1]
  · exact Idealize.ShloMosaic.shapeCast_apply _ _ _ (ix1 h) (by
      rw [Shape.rowMajor_val_two, Shape.rowMajor_val_one]
      show h.val = h.val * 1 + 0
      omega)

/-- The gates that a point works on are the arguments'. -/
theorem gates_eq : gatesB (iblk m c 0 t) (iblk m c 1 t) h = gates (args m c) h (seqAt t) := by
  funext k
  unfold gatesB gates
  split
  · exact congrArg lsig (congrArg₂ (· + ·) (iblk0 h m c t _) (iblk1 h m c t))
  · rfl

/-- The output array is the running sums of the arguments. -/
theorem out_eq (c : Dev nD) : (dats m 0 c).arrAt 2 cfg0.N = sums (args m c) := by
  refine (dats m 0 c).arrAt_eq_of_covers 2 _ (by decide +kernel) fun t hf y => ?_
  blk_simp
  rw [after0_2]
  obtain ⟨h, j, rfl⟩ : ∃ (h : Fin 8) (j : Fin 4096), y = ix2 h j := ⟨y 0, y 1, by funext a; fin_cases a <;> rfl⟩
  refine (block_apply _ _ h j).trans ?_
  rw [gates_eq]
  have e : ((cfg0.win 2).blk t).view.emb (ix2 h j) = ix2 h (⟨4096 * (seqAt t).val + j.val, by have := coord_lt t; unfold seqAt; omega⟩ : Fin 32768) := by
    unfold seqAt
    blk_ext [index2]
  rw [e]
  unfold sums
  have hj := j.isLt
  have e1 : (4096 * (seqAt t).val + j.val) / 4096 = (seqAt t).val := by omega
  have e2 : (4096 * (seqAt t).val + j.val) % 4096 = j.val := by omega
  show _ = tail (gates (args m c) h ⟨(4096 * (seqAt t).val + j.val) / 4096, _⟩) 4096 ((4096 * (seqAt t).val + j.val) % 4096) * base
  rw [e2]
  exact congrArg (fun s => tail (gates (args m c) h s) 4096 j.val * base) (Fin.ext e1.symm)

end Cert.Sum

end
-- ==== Proof.SumRef.lean ====
/- The running sums' reference, read at an index: a sum over a window that ends at the entry. -/
module

public import proofs.«01_k».proof.Proof.SumSpec
public import proofs.«01_k».proof.Proof.ProjRef
public import proofs.«01_k».proof.Proof.Gen.Reference4Ideal.Run

@[expose] public section

set_option maxRecDepth 8192

noncomputable section

namespace Cert.Sum

open Cert.Reference4Ideal Cert.Reference4Ideal.Gen
open Idealize.ShloMosaic

/-- The logits by sequence, with the bias, -/
def logitT (fl : FVec Ideal S8x32768 .f32) (b : FVec Ideal S8 .f32) : FVec Ideal S8x8x4096 .f32 :=
  addf (shapeCast S8x8x4096 fl shapeCasts_S8x32768_S8x8x4096)
    (broadcastInDim S8x8x4096 ![0, 1, 2] bcast_S8x1x1_S8x8x4096_0_1_2 (broadcastInDim S8x1x1 ![0] bcast_S8_S8x1x1_0 b))

/-- the logarithm of their logistic function, -/
def logT (Z : FVec Ideal S8x8x4096 .f32) : FVec Ideal S8x8x4096 .f32 :=
  let N : FVec Ideal S8x8x4096 .f32 := Host.negf Z
  let O : FVec Ideal S8x8x4096 .f32 := broadcastInDim S8x8x4096 ![] bcast_S_S8x8x4096 (constant S_ .f32 0x00000000#32)
  Host.negf (select (cmpf .une (subf N O) (subf N O)) (addf N O)
    (addf (maximumf N O) (Host.log1p (Host.exp (Host.negf (Host.absf (subf N O)))))))

/-- the sums along each sequence, -/
def cumT (L : FVec Ideal S8x8x4096 .f32) : FVec Ideal S8x8x4096 .f32 :=
  Host.reduceWindowAdd ![1, 1, 4096] ![1, 1, 1] ![0, 0, 4095] ![0, 0, 0] L
    (broadcastInDim S_ ![] bcast_S_S_ (constant S_ .f32 0x00000000#32))
    reduceWindows_S8x8x4096_S8x8x4096_w1s1p0_0_w1s1p0_0_w4096s1p4095_0 h_S_

/-- and their change to base 2. -/
def refT (a : Args) : FVec Ideal S8x32768 .f32 :=
  Host.divf (shapeCast S8x32768 (cumT (logT (logitT a.fl a.b))) shapeCasts_S8x8x4096_S8x32768)
    (broadcastInDim S8x32768 ![] bcast_S_S8x32768 (Host.log (constant S_ .f32 0x40000000#32)))

variable (h s : Fin 8) (j : Fin 4096)

theorem logitT_apply (fl : FVec Ideal S8x32768 .f32) (b : FVec Ideal S8 .f32) :
    logitT fl b (ix3 h s j) = fl (ix2 h ⟨4096 * s.val + j.val, by omega⟩) + b (ix1 h) := by
  refine congrArg₂ (· + ·) ?_ ?_
  · exact Idealize.ShloMosaic.shapeCast_apply _ _ _ (ix2 h ⟨4096 * s.val + j.val, by omega⟩) (by
      rw [Shape.rowMajor_val_two, Shape.rowMajor_val_three]
      show h.val * 32768 + (4096 * s.val + j.val) = (h.val * 8 + s.val) * 4096 + j.val
      omega)
  · pointwise

theorem logT_apply (Z : FVec Ideal S8x8x4096 .f32) : logT Z (ix3 h s j) = lsig (Z (ix3 h s j)) := by
  rw [← lsig'_eq]
  unfold lsig'
  pointwise [logT]
  rw [if_neg (fun hn => hn rfl)]
  rfl

/-- Adding one term after another is adding their sum. -/
theorem foldl_add {n : ℕ} (g : Fin n → EReal) (l : List (Fin n)) (a : EReal) :
    l.foldl (fun r k => r + g k) a = a + (l.map g).sum := by
  induction l generalizing a with
  | nil => simp
  | cons k l ih => rw [List.foldl_cons, ih, List.map_cons, List.sum_cons, add_assoc]

/-- The places of a window that is one entry wide but for the last axis. -/
def places (n : ℕ) : Fin n ≃ (⟨3, ![1, 1, n]⟩ : Shape).Idx where
  toFun w := ix3 0 0 w
  invFun i := i 2
  left_inv _ := rfl
  right_inv i := by
    funext a
    fin_cases a
    · exact Subsingleton.elim (α := Fin 1) _ _
    · exact Subsingleton.elim (α := Fin 1) _ _
    · rfl

/-- The sum over a window that ends at the entry, with zeros before the first. -/
theorem window_apply {A B n m : ℕ} (hm : m + 1 = n) (L : (⟨3, ![A, B, n]⟩ : Shape).Idx → EReal)
    (hw : (⟨3, ![A, B, n]⟩ : Shape).ReduceWindows ![1, 1, n] ![1, 1, 1] ![0, 0, m] ![0, 0, 0] ⟨3, ![A, B, n]⟩)
    (a : Fin A) (b : Fin B) (j : Fin n) :
    Ideal.hostReduceWindowAdd ![1, 1, n] ![1, 1, 1] ![0, 0, m] ![0, 0, 0] hw L 0 (ix3 a b j)
      = ∑ w : Fin n, if hk : m ≤ j.val + w.val then L (ix3 a b ⟨j.val + w.val - m, by omega⟩) else 0 := by
  unfold Ideal.hostReduceWindowAdd Host.reduceWindow
  dsimp only
  rw [foldl_add, ← Fin.sum_univ_def, zero_add]
  let G : (⟨3, ![1, 1, n]⟩ : Shape).Idx → EReal := fun i =>
    if hk : m ≤ j.val + (i 2).val then L (ix3 a b ⟨j.val + (i 2).val - m, by have : (i 2).val < n := (i 2).isLt; omega⟩) else 0
  refine Eq.trans (Finset.sum_congr rfl fun k _ => ?_)
    ((Equiv.sum_comp (Shape.rowMajor ⟨3, ![1, 1, n]⟩).symm G).trans (Equiv.sum_comp (places n) G).symm)
  let i := (Shape.rowMajor ⟨3, ![1, 1, n]⟩).symm k
  have h0 : (i 0).val < 1 := (i 0).isLt
  have h1 : (i 1).val < 1 := (i 1).isLt
  have h2 : (i 2).val < n := (i 2).isLt
  have ha := a.isLt
  have hb := b.isLt
  have hj := j.isLt
  by_cases hk : m ≤ j.val + (i 2).val
  · refine (dif_pos ?_).trans (Eq.trans ?_ (dif_pos hk).symm)
    · intro x
      fin_cases x
      · show 0 ≤ a.val * 1 + (i 0).val ∧ a.val * 1 + (i 0).val - 0 < A
        omega
      · show 0 ≤ b.val * 1 + (i 1).val ∧ b.val * 1 + (i 1).val - 0 < B
        omega
      · show m ≤ j.val * 1 + (i 2).val ∧ j.val * 1 + (i 2).val - m < n
        omega
    · refine congrArg L (funext fun x => ?_)
      fin_cases x
      · exact Fin.ext (by show a.val * 1 + (i 0).val - 0 = a.val; omega)
      · exact Fin.ext (by show b.val * 1 + (i 1).val - 0 = b.val; omega)
      · exact Fin.ext (by show j.val * 1 + (i 2).val - m = j.val + (i 2).val - m; omega)
  · refine (dif_neg fun hx => hk ?_).trans (show G i = 0 from dif_neg hk).symm
    have := (hx 2).1
    have h' : m ≤ j.val * 1 + (i 2).val := this
    omega

/-- A sequence of an array, as a function on the numbers. -/
def line (L : FVec Ideal S8x8x4096 .f32) (h s : Fin 8) : ℕ → EReal := fun k => if hk : k < 4096 then L (ix3 h s ⟨k, hk⟩) else 0

theorem cumT_apply (L : FVec Ideal S8x8x4096 .f32) : cumT L (ix3 h s j) = tail (line L h s) 4096 j.val := by
  have z : broadcastInDim S_ ![] bcast_S_S_ (constant (F := Ideal) S_ .f32 0x00000000#32) (Shape.Idx.first h_S_) = 0 := by
    pointwise
  rw [tail_eq _ _ 4095 _ rfl]
  unfold cumT Host.reduceWindowAdd
  rw [z, Ideal.hostReduceWindowAdd_def]
  refine (window_apply (A := 8) (B := 8) (n := 4096) (m := 4095) rfl L _ h s j).trans ?_
  refine Finset.sum_congr rfl fun w _ => ?_
  unfold line
  by_cases hk : 4095 ≤ j.val + w.val
  · rw [dif_pos hk, if_pos hk, dif_pos]
  · rw [dif_neg hk, if_neg hk]

/-- A number over the logarithm of 2. -/
theorem div_log (x : EReal) : Ideal.div x ((Real.log 2 : ℝ) : EReal) = x * base := by
  have h2 : 0 < Real.log 2 := Real.log_pos (by norm_num)
  have hne : ((Real.log 2 : ℝ) : EReal) ≠ 0 := by
    rw [← EReal.coe_zero, Ne, EReal.coe_eq_coe_iff]; exact h2.ne'
  unfold Ideal.div base
  rw [if_neg hne, EReal.coe_inv]

variable (a : Args)

/-- The gates of the reference are the arguments'. -/
theorem line_eq : line (logT (logitT a.fl a.b)) h s = gates a h s := by
  funext k
  unfold line gates
  split
  · rw [logT_apply, logitT_apply]
  · rfl

/-- The reference's array is the running sums. -/
theorem refT_eq : refT a = sums a := by
  funext i
  obtain ⟨h, t, rfl⟩ : ∃ (h : Fin 8) (t : Fin 32768), i = ix2 h t := ⟨i 0, i 1, by funext a; fin_cases a <;> rfl⟩
  have ht := t.isLt
  have hs : t.val / 4096 < 8 := by omega
  have hj : t.val % 4096 < 4096 := Nat.mod_lt _ (by omega)
  have e : ∀ C : FVec Ideal S8x8x4096 .f32, shapeCast S8x32768 C shapeCasts_S8x8x4096_S8x32768 (ix2 h t) = C (ix3 h ⟨t.val / 4096, hs⟩ ⟨t.val % 4096, hj⟩) :=
    fun C => Idealize.ShloMosaic.shapeCast_apply _ _ _ _ (by
      rw [Shape.rowMajor_val_two, Shape.rowMajor_val_three]
      show (h.val * 8 + t.val / 4096) * 4096 + t.val % 4096 = h.val * 32768 + t.val
      omega)
  show Ideal.div (shapeCast S8x32768 _ shapeCasts_S8x8x4096_S8x32768 (ix2 h t)) (broadcastInDim S8x32768 ![] bcast_S_S8x32768 (Host.log (F := Ideal) (φ := .f32) (constant S_ .f32 0x40000000#32)) (ix2 h t)) = _
  have l : broadcastInDim S8x32768 ![] bcast_S_S8x32768 (Host.log (constant (F := Ideal) S_ .f32 0x40000000#32)) (ix2 h t) = ((Real.log 2 : ℝ) : EReal) := by
    rw [← Cert.Proj.log_2]
    pointwise
  rw [e, l, div_log, cumT_apply, line_eq]
  rfl

/-- The arguments, as the reference's memory holds them. -/
def rargs (m : (ℓ : Loc nD τ sig) → Buf (Elt Ideal) ℓ) (c : Dev nD) : Args where
  fl := m ((c.tc : Thread nD τ).loc main_arg0)
  b := m ((c.tc : Thread nD τ).loc main_arg1)

end Cert.Sum

end
-- ==== Proof.lean ====
/- The certificate: the attention kernel, the output projection, the input projection and the running sums run and leave
   their arguments unchanged, over the machine's floats and over the extended reals; the constant of the attention's masks
   may stand for −∞, the input projection's scale and the sums' log2(e) for what they round; and over the extended reals
   the results of each are its reference's, the attention's from finite queries, keys and log-forget sums. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Array
public import proofs.«01_k».proof.Proof.Agree
public import proofs.«01_k».proof.Proof.OutArray
public import proofs.«01_k».proof.Proof.OutRef
public import proofs.«01_k».proof.Proof.ProjArray
public import proofs.«01_k».proof.Proof.ProjRef
public import proofs.«01_k».proof.Proof.SumArray
public import proofs.«01_k».proof.Proof.SumRef
public import Idealize.ShloMosaic.Adequacy
public import Idealize.ShloMosaic.Init

@[expose] public section

noncomputable section

namespace Cert.Proof

open Idealize.ShloMosaic Idealize.SL.Sem

/-- The reference runs, and leaves its arguments and the counters as they were. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The kernel's result is the reference's. -/
theorem value : Cert.algebraic_KernelIdeal_ReferenceIdeal_pre_finite_scores := by
  intro m g m' g' hpre hargs
  refine ⟨fun c => Cert.Fox.fox (Cert.Fox.argA m c) (Cert.Fox.argC m c), ?_, ?_⟩
  · exact (θ_run Cert.KernelIdeal.defs _ _).mono (fun r h c => ⟨(h c).1.trans (Cert.Fox.out_eq c), (h c).2⟩) (Cert.Fox.run_blocks m g)
  · refine (θ_run Cert.ReferenceIdeal.defs _ _).mono (fun r h c => ⟨(h c).1.trans ?_, (h c).2⟩) (Cert.ReferenceIdeal.Value.run m' g')
    refine (Cert.Fox.res_eq m' c).trans ?_
    rw [(hargs c).1, (hargs c).2]
    exact Cert.Fox.ref_eq_fox (hpre c)

/-- The output projection's reference runs, and leaves its arguments and the counters as they were. -/
theorem frame_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0) :=
  (θ_run Cert.Reference2Ideal.defs _ _).mono (fun r h => ⟨fun c => (h c).2, sem_eq_zero_of_no_sems (by decide) r.2⟩)
    (Cert.Reference2Ideal.Value.run m g)

/-- The output projection's result is its reference's. -/
theorem value2 : Cert.algebraic_Kernel2Ideal_Reference2Ideal := by
  intro m g m' g' _ hargs
  refine ⟨fun c => Cert.Out.result (Cert.Out.args m c), ?_, ?_⟩
  · exact (θ_run Cert.Kernel2Ideal.defs _ _).mono (fun r h c => ⟨(h c).1.trans (Cert.Out.out_eq m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    refine (Cert.Out.res_eq m' c).trans ((Cert.Out.refT_eq _).trans (congrArg Cert.Out.result ?_))
    obtain ⟨h0, h1, h2, h3, h4, h5, h6, h7, h8, h9, h10, h11⟩ := hargs c
    unfold Cert.Out.rargs Cert.Out.args
    rw [h0, h1, h2, h3, h4, h5, h6, h7, h8, h9, h10, h11]

/-- The input projection's reference runs, and leaves its arguments and the counters as they were. -/
theorem frame_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0) :=
  (θ_run Cert.Reference3Ideal.defs _ _).mono (fun r h => ⟨fun c => (h c).2.2.2, sem_eq_zero_of_no_sems (by decide) r.2⟩)
    (Cert.Reference3Ideal.Value.run m g)

/-- The input projection's three results are its reference's. -/
theorem value3 : Cert.algebraic_Kernel3Ideal_Reference3Ideal := by
  intro m g m' g' _ hargs
  refine ⟨fun c => Cert.Proj.qkv (Cert.Proj.args m c), fun c => Cert.Proj.gate (Cert.Proj.args m c), fun c => Cert.Proj.forget (Cert.Proj.args m c), ?_, ?_⟩
  · exact (θ_run Cert.Kernel3Ideal.defs _ _).mono (fun r h c => ⟨(h c).1.trans (Cert.Proj.arr14 m c), (h c).2.1.trans (Cert.Proj.arr15 m c),
      (h c).2.2.2.1.trans (Cert.Proj.arr17 m c), (h c).2.2.2.2⟩) (Cert.Kernel3Ideal.Value.run_blocks m g)
  · have e : ∀ c, Cert.Proj.rargs m' c = Cert.Proj.args m c := fun c => by
      obtain ⟨h0, h1, h2, _⟩ := hargs c
      unfold Cert.Proj.rargs Cert.Proj.args
      rw [h0, h1, h2]
    exact (θ_run Cert.Reference3Ideal.defs _ _).mono (fun r h c => ⟨(h c).1.trans ((Cert.Proj.qkvT_eq (Cert.Proj.rargs m' c)).trans (congrArg Cert.Proj.qkv (e c))),
      (h c).2.1.trans ((Cert.Proj.gateT_eq (Cert.Proj.rargs m' c)).trans (congrArg Cert.Proj.gate (e c))),
      (h c).2.2.1.trans ((Cert.Proj.forgetT_eq (Cert.Proj.rargs m' c)).trans (congrArg Cert.Proj.forget (e c))), (h c).2.2.2⟩)
      (Cert.Reference3Ideal.Value.run m' g')

/-- The running sums' reference runs, and leaves its arguments and the counters as they were. -/
theorem frame_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, sem_eq_zero_of_no_sems (by decide) r.2⟩)
    (Cert.Reference4Ideal.Value.run m g)

/-- The running sums are their reference's. -/
theorem value4 : Cert.algebraic_Kernel4Ideal_Reference4Ideal := by
  intro m g m' g' _ hargs
  refine ⟨fun c => Cert.Sum.sums (Cert.Sum.args m c), ?_, ?_⟩
  · exact (θ_run Cert.Kernel4Ideal.defs _ _).mono (fun r h c => ⟨(h c).1.trans (Cert.Sum.out_eq m c), (h c).2⟩) (Cert.Kernel4Ideal.Value.run_blocks m g)
  · have e : ∀ c, Cert.Sum.rargs m' c = Cert.Sum.args m c := fun c => by
      unfold Cert.Sum.rargs Cert.Sum.args
      rw [(hargs c).1, (hargs c).2]
    exact (θ_run Cert.Reference4Ideal.defs _ _).mono (fun r h c => ⟨(h c).1.trans ((Cert.Sum.refT_eq (Cert.Sum.rargs m' c)).trans (congrArg Cert.Sum.sums (e c))), (h c).2⟩)
      (Cert.Reference4Ideal.Value.run m' g')

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Fox.preFacts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    fun m g _ => Cert.Kernel2.Gen.frame m g,
    fun m g _ => Cert.Kernel2Ideal.Gen.frame m g,
    fun m g _ => frame_reference2 m g,
    fun m g _ => Cert.Kernel3.Gen.frame m g,
    fun m g _ => Cert.Kernel3Ideal.Gen.frame m g,
    fun m g _ => frame_reference3 m g,
    fun m g _ => Cert.Kernel4.Gen.frame m g,
    fun m g _ => Cert.Kernel4Ideal.Gen.frame m g,
    fun m g _ => frame_reference4 m g,
    IdealRules.named_const.statement Cert.KernelIdeal.κ "mask" .f32 0xF149F2CA#32 ⊥ rfl,
    value, trivial, value2,
    IdealRules.named_const.statement Cert.Kernel3Ideal.κ "q_scale" .f32 0x3E0293EE#32 ((((Real.sqrt 128) * (Real.log 2))⁻¹ : ℝ) : EReal) rfl,
    value3,
    IdealRules.named_const.statement Cert.Kernel4Ideal.κ "log2_e" .f32 0x3FB8AA3B#32 (((Real.log 2)⁻¹ : ℝ) : EReal) rfl,
    value4⟩

end Cert.Proof

end
